-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S_ : Shape := ⟨0, ![]⟩
abbrev S32x8732x21 : Shape := ⟨3, ![32, 8732, 21]⟩
abbrev S32x8732x4 : Shape := ⟨3, ![32, 8732, 4]⟩
abbrev S21x32x8732 : Shape := ⟨3, ![21, 32, 8732]⟩
abbrev S1x1 : Shape := ⟨2, ![1, 1]⟩
abbrev S21x8x8732 : Shape := ⟨3, ![21, 8, 8732]⟩
abbrev S16x8732 : Shape := ⟨2, ![16, 8732]⟩
abbrev S1x8x8732 : Shape := ⟨3, ![1, 8, 8732]⟩
abbrev S8x8732 : Shape := ⟨2, ![8, 8732]⟩
abbrev S1 : Shape := ⟨1, ![1]⟩
abbrev S1x1x1 : Shape := ⟨3, ![1, 1, 1]⟩

abbrev nBuf : Space → Nat
  | .hbm => 21
  | .vmem => 8
  | .smem => 0
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S32x8732x21, .f32⟩
  | .hbm, ⟨3, _⟩ => ⟨S32x8732x4, .f32⟩
  | .hbm, ⟨4, _⟩ => ⟨S32x8732x21, .f32⟩
  | .hbm, ⟨5, _⟩ => ⟨S32x8732x4, .f32⟩
  | .hbm, ⟨6, _⟩ => ⟨S21x32x8732, .f32⟩
  | .hbm, ⟨7, _⟩ => ⟨S21x32x8732, .f32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .i1⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .local _ .vmem, ⟨0, _⟩ => ⟨S21x8x8732, .f32⟩
  | .local _ .vmem, ⟨1, _⟩ => ⟨S21x8x8732, .f32⟩
  | .local _ .vmem, ⟨2, _⟩ => ⟨S21x8x8732, .f32⟩
  | .local _ .vmem, ⟨3, _⟩ => ⟨S21x8x8732, .f32⟩
  | .local _ .vmem, ⟨4, _⟩ => ⟨S1x1, .f32⟩
  | .local _ .vmem, ⟨5, _⟩ => ⟨S1x1, .f32⟩
  | .local _ .vmem, ⟨6, _⟩ => ⟨S16x8732, .f32⟩
  | .local _ .vmem, ⟨7, _⟩ => ⟨S16x8732, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c2_i32 : BitVec 32 := 2#32
  let v295 : BitVec 1 := Scalar.cmpi .slt arg0 c2_i32
  let v296 : BitVec 32 := Scalar.extui v295
  let c0_i32_147 : BitVec 32 := 0#32
  let v297 : BitVec 1 := Scalar.cmpi .ne v296 c0_i32_147
  v297

def k0_off1 (i : grid0.Coords) : Fin 2 → Nat :=
  let arg0 : BitVec 32 := BitVec.ofNat 32 (i 0).val
  let c8_i32 : BitVec 32 := 8#32
  let v301 : BitVec 32 := Scalar.muli arg0 c8_i32
  let v302 : Index := Scalar.indexCast v301
  let c0_150 : Index := 0#32
  ![v302.toNat, 0]
def k0_cond3 (i : grid0.Coords) : BitVec 1 :=
  let arg0 : BitVec 32 := BitVec.ofNat 32 (i 0).val
  let c2_i32_148 : BitVec 32 := 2#32
  let v298 : BitVec 1 := Scalar.cmpi .sge arg0 c2_i32_148
  let v299 : BitVec 32 := Scalar.extui v298
  let c0_i32_149 : BitVec 32 := 0#32
  let v300 : BitVec 1 := Scalar.cmpi .ne v299 c0_i32_149
  v300

def k0_off2 (i : grid0.Coords) : Fin 2 → Nat :=
  let arg0 : BitVec 32 := BitVec.ofNat 32 (i 0).val
  let c2_i32_150 : BitVec 32 := 2#32
  let v301 : BitVec 32 := Scalar.subi arg0 c2_i32_150
  let c8_i32 : BitVec 32 := 8#32
  let v302 : BitVec 32 := Scalar.muli v301 c8_i32
  let v303 : Index := Scalar.indexCast v302
  let c0_151 : Index := 0#32
  ![v303.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S21x8x8732 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S21x8x8732 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S_ : Shape := ⟨0, ![]⟩
abbrev S32x8732x21 : Shape := ⟨3, ![32, 8732, 21]⟩
abbrev S32x8732x4 : Shape := ⟨3, ![32, 8732, 4]⟩
abbrev S32x8732x20 : Shape := ⟨3, ![32, 8732, 20]⟩
abbrev S32x8732x1 : Shape := ⟨3, ![32, 8732, 1]⟩
abbrev S32x8732 : Shape := ⟨2, ![32, 8732]⟩
abbrev S16x8732 : Shape := ⟨2, ![16, 8732]⟩
abbrev S1 : Shape := ⟨1, ![1]⟩

abbrev nBuf : Space → Nat
  | .hbm => 44
  | .vmem => 0
  | .smem => 0
  | _ => 0

abbrev bufTy : (tb : Table) → Fin (tcTables nBuf tb) → BufTy
  | .hbm, ⟨0, _⟩ => ⟨S_, .i32⟩
  | .hbm, ⟨1, _⟩ => ⟨S_, .i32⟩
  | .hbm, ⟨2, _⟩ => ⟨S32x8732x21, .f32⟩
  | .hbm, ⟨3, _⟩ => ⟨S32x8732x4, .f32⟩
  | .hbm, ⟨4, _⟩ => ⟨S32x8732x21, .f32⟩
  | .hbm, ⟨5, _⟩ => ⟨S32x8732x4, .f32⟩
  | .hbm, ⟨6, _⟩ => ⟨S32x8732x20, .f32⟩
  | .hbm, ⟨7, _⟩ => ⟨S32x8732x1, .f32⟩
  | .hbm, ⟨8, _⟩ => ⟨S32x8732, .f32⟩
  | .hbm, ⟨9, _⟩ => ⟨S_, .f32⟩
  | .hbm, ⟨10, _⟩ => ⟨S32x8732, .f32⟩
  | .hbm, ⟨11, _⟩ => ⟨S32x8732, .i1⟩
  | .hbm, ⟨12, _⟩ => ⟨S16x8732, .i1⟩
  | .hbm, ⟨13, _⟩ => ⟨S16x8732, .i1⟩
  | .hbm, ⟨14, _⟩ => ⟨S32x8732, .i1⟩
  | .hbm, ⟨15, _⟩ => ⟨S32x8732, .i1⟩
  | .hbm, ⟨16, _⟩ => ⟨S32x8732, .i1⟩
  | .hbm, ⟨17, _⟩ => ⟨S_, .f32⟩
  | .hbm, ⟨18, _⟩ => ⟨S32x8732x21, .f32⟩
  | .hbm, ⟨19, _⟩ => ⟨S32x8732x21, .f32⟩
  | .hbm, ⟨20, _⟩ => ⟨S_, .f32⟩
  | .hbm, ⟨21, _⟩ => ⟨S32x8732x21, .f32⟩
  | .hbm, ⟨22, _⟩ => ⟨S32x8732x21, .f32⟩
  | .hbm, ⟨23, _⟩ => ⟨S32x8732x21, .f32⟩
  | .hbm, ⟨24, _⟩ => ⟨S32x8732x21, .f32⟩
  | .hbm, ⟨25, _⟩ => ⟨S32x8732x21, .f32⟩
  | .hbm, ⟨26, _⟩ => ⟨S32x8732x21, .f32⟩
  | .hbm, ⟨27, _⟩ => ⟨S_, .f32⟩
  | .hbm, ⟨28, _⟩ => ⟨S32x8732, .f32⟩
  | .hbm, ⟨29, _⟩ => ⟨S32x8732, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S32x8732, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Proof.Setup.lean ====
/- The kernel body's three conditions on the grid point in closed form, the row offset at which each point reads and
   writes the scratch, and the memrefs the pipeline calls the body on. -/
module

public import proofs.«01_k».proof.Proof.Gen.KernelIdeal.Frame
public import proofs.«01_k».proof.Proof.Gen.KernelIdeal.Skeleton
public import proofs.«01_k».proof.Proof.Gen.KernelIdeal.Points
public import proofs.«01_k».proof.Proof.Gen.KernelIdeal.Launch
public import Idealize.ShloMosaic.Lib.Exec

@[expose] public section

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The sums are cleared at the first point only. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The scratch is written at the first two points. -/
theorem writes_iff : ∀ t : Fin cfg0.N, k0_cond2 (grid0.coords t) = 1#1 ↔ t.val < 2 :=
  (by decide +kernel : ∀ t : Fin grid0.N, k0_cond2 (grid0.coords t) = 1#1 ↔ t.val < 2)

/-- The sums are added to at the last two points. -/
theorem adds_iff : ∀ t : Fin cfg0.N, k0_cond3 (grid0.coords t) = 1#1 ↔ 2 ≤ t.val :=
  (by decide +kernel : ∀ t : Fin grid0.N, k0_cond3 (grid0.coords t) = 1#1 ↔ 2 ≤ t.val)

/-- The first row of the scratch a point writes. -/
theorem off1_row : ∀ t : Fin cfg0.N, t.val < 2 → k0_off1 (grid0.coords t) 0 = 8 * t.val ∧ k0_off1 (grid0.coords t) 1 = 0 :=
  (by decide +kernel : ∀ t : Fin grid0.N, t.val < 2 →
    k0_off1 (grid0.coords t) 0 = 8 * t.val ∧ k0_off1 (grid0.coords t) 1 = 0)

/-- The first row of the scratch a point reads. -/
theorem off2_row : ∀ t : Fin cfg0.N, 2 ≤ t.val →
    k0_off2 (grid0.coords t) 0 = 8 * (t.val - 2) ∧ k0_off2 (grid0.coords t) 1 = 0 :=
  (by decide +kernel : ∀ t : Fin grid0.N, 2 ≤ t.val →
    k0_off2 (grid0.coords t) 0 = 8 * (t.val - 2) ∧ k0_off2 (grid0.coords t) 1 = 0)

/-- Each window's staging memref at a point, as the pipeline passes it to the body. -/
abbrev stg0 (t : Fin cfg0.N) : Memref sig .tc .vmem S21x8x8732 .f32 := win0_0.stage (cfg0.slots t 0)
abbrev stg1 (t : Fin cfg0.N) : Memref sig .tc .vmem S21x8x8732 .f32 := win0_1.stage (cfg0.slots t 1)
abbrev stg2 (t : Fin cfg0.N) : Memref sig .tc .vmem S1x1 .f32 := win0_2.stage (cfg0.slots t 2)
abbrev stg3 (t : Fin cfg0.N) : Memref sig .tc .vmem S1x1 .f32 := win0_3.stage (cfg0.slots t 3)
/-- The two scratch buffers: the divergences of the first half of the batch, and its marks. -/
abbrev klScr : Memref sig .tc .vmem S16x8732 .f32 := Memref.whole cc0_scratch0
abbrev leftScr : Memref sig .tc .vmem S16x8732 .f32 := Memref.whole cc0_scratch1

/-- The region's own buffers and the generator register, the scratch buffers owned as memrefs at some contents. -/
theorem PhiA_scratch (c : Dev nD) :
    (Pipeline.ΦA spec0 c : sProp 𝕄)
      = iprop(iprop((∃ d, owns (c : Thread nD τ) klScr fullShare d)
          ∗ (∃ d, owns (c : Thread nD τ) leftScr fullShare d)) ∗ (∃ r, prngReg c r)) := by
  unfold Pipeline.ΦA; rw [scopedRest0_eq]; simp only [klScr, leftScr, owns_whole]; rfl

/-- The body table's row at a point's slots is the body there. -/
theorem body_row (t : Fin cfg0.N) :
    defs₀ (F := F) .tc cfg0.body (cfg0.bodyArgs t (cfg0.slots t)) = bodyAt0 t := by
  unfold defs₀; rw [Defs.onTc_tc]

end Cert.KernelIdeal.Loss

end
-- ==== Proof.Chain.lean ====
/- What the kernel body computes from its two blocks: the divergence of every row and column, and the mark that the
   largest entry of the classes past the first exceeds the first class's. -/
module

public import proofs.«01_k».proof.Proof.Setup

@[expose] public section

set_option maxRecDepth 16384

noncomputable section

namespace Cert.KernelIdeal.Loss

open Idealize.ShloMosaic Idealize.ShloMosaic.TcCoe
open Idealize.SL.Sem
open Cert.KernelIdeal.Gen

variable {F : FTy → Type} [FloatOps F]

/-- One class of a block: what a load of it reads. -/
def row (x : Vec F S21x8x8732 .f32) (o : Fin 3 → ℕ) (h : ∀ a, o a + S1x8x8732.size a ≤ S21x8x8732.size a) :
    Vec F S1x8x8732 .f32 := View.ld x (Rect.unit (s := S21x8x8732) o S1x8x8732.size h)

/-- The divergence summed over classes 0 and 1. -/
def kl1 (x y : Vec F S21x8x8732 .f32) : FVec F S8x8732 .f32 :=
  k0_pay12 (row x ![0, 0, 0] inb_S21x8x8732_S1x8x8732_0_0_0) (row y ![0, 0, 0] inb_S21x8x8732_S1x8x8732_0_0_0) (row x ![1, 0, 0] inb_S21x8x8732_S1x8x8732_1_0_0) (row y ![1, 0, 0] inb_S21x8x8732_S1x8x8732_1_0_0)

/-- The divergence summed over classes 0 to 4. -/
def kl4 (x y : Vec F S21x8x8732 .f32) : FVec F S8x8732 .f32 :=
  k0_pay19 (kl1 x y) (k0_pay15 (row x ![2, 0, 0] inb_S21x8x8732_S1x8x8732_2_0_0)) (k0_pay16 (row x ![2, 0, 0] inb_S21x8x8732_S1x8x8732_2_0_0)) (row y ![2, 0, 0] inb_S21x8x8732_S1x8x8732_2_0_0) (row x ![3, 0, 0] inb_S21x8x8732_S1x8x8732_3_0_0) (row y ![3, 0, 0] inb_S21x8x8732_S1x8x8732_3_0_0) (row x ![4, 0, 0] inb_S21x8x8732_S1x8x8732_4_0_0) (row y ![4, 0, 0] inb_S21x8x8732_S1x8x8732_4_0_0)

/-- The divergence summed over classes 0 to 7. -/
def kl7 (x y : Vec F S21x8x8732 .f32) : FVec F S8x8732 .f32 :=
  k0_pay25 (kl4 x y) (k0_pay20 (row x ![5, 0, 0] inb_S21x8x8732_S1x8x8732_5_0_0)) (row y ![5, 0, 0] inb_S21x8x8732_S1x8x8732_5_0_0) (row x ![6, 0, 0] inb_S21x8x8732_S1x8x8732_6_0_0) (row y ![6, 0, 0] inb_S21x8x8732_S1x8x8732_6_0_0) (row x ![7, 0, 0] inb_S21x8x8732_S1x8x8732_7_0_0) (row y ![7, 0, 0] inb_S21x8x8732_S1x8x8732_7_0_0)

/-- The divergence summed over classes 0 to 9. -/
def kl9 (x y : Vec F S21x8x8732 .f32) : FVec F S8x8732 .f32 :=
  k0_pay28 (kl7 x y) (row x ![8, 0, 0] inb_S21x8x8732_S1x8x8732_8_0_0) (row y ![8, 0, 0] inb_S21x8x8732_S1x8x8732_8_0_0) (row x ![9, 0, 0] inb_S21x8x8732_S1x8x8732_9_0_0) (row y ![9, 0, 0] inb_S21x8x8732_S1x8x8732_9_0_0)

/-- The divergence summed over classes 0 to 12. -/
def kl12 (x y : Vec F S21x8x8732 .f32) : FVec F S8x8732 .f32 :=
  k0_pay36 (kl9 x y) (k0_pay31 (row x ![10, 0, 0] inb_S21x8x8732_S1x8x8732_10_0_0)) (k0_pay32 (row x ![10, 0, 0] inb_S21x8x8732_S1x8x8732_10_0_0)) (k0_pay33 (row y ![10, 0, 0] inb_S21x8x8732_S1x8x8732_10_0_0)) (Scalar.ofBits .f32 0x33D6BF95#32) (row x ![11, 0, 0] inb_S21x8x8732_S1x8x8732_11_0_0) (row y ![11, 0, 0] inb_S21x8x8732_S1x8x8732_11_0_0) (row x ![12, 0, 0] inb_S21x8x8732_S1x8x8732_12_0_0) (row y ![12, 0, 0] inb_S21x8x8732_S1x8x8732_12_0_0)

/-- The divergence summed over classes 0 to 15. -/
def kl15 (x y : Vec F S21x8x8732 .f32) : FVec F S8x8732 .f32 :=
  k0_pay44 (kl12 x y) (k0_pay39 (row x ![13, 0, 0] inb_S21x8x8732_S1x8x8732_13_0_0)) (k0_pay40 (row x ![13, 0, 0] inb_S21x8x8732_S1x8x8732_13_0_0)) (row y ![13, 0, 0] inb_S21x8x8732_S1x8x8732_13_0_0) (row x ![14, 0, 0] inb_S21x8x8732_S1x8x8732_14_0_0) (row y ![14, 0, 0] inb_S21x8x8732_S1x8x8732_14_0_0) (row x ![15, 0, 0] inb_S21x8x8732_S1x8x8732_15_0_0) (row y ![15, 0, 0] inb_S21x8x8732_S1x8x8732_15_0_0)

/-- The divergence summed over classes 0 to 17. -/
def kl17 (x y : Vec F S21x8x8732 .f32) : FVec F S8x8732 .f32 :=
  k0_pay47 (kl15 x y) (row x ![16, 0, 0] inb_S21x8x8732_S1x8x8732_16_0_0) (row y ![16, 0, 0] inb_S21x8x8732_S1x8x8732_16_0_0) (row x ![17, 0, 0] inb_S21x8x8732_S1x8x8732_17_0_0) (row y ![17, 0, 0] inb_S21x8x8732_S1x8x8732_17_0_0)

/-- The divergence of every row and column of a block, summed over all 21 classes. -/
def kl20 (x y : Vec F S21x8x8732 .f32) : FVec F S8x8732 .f32 :=
  k0_pay54 (kl17 x y) (k0_pay50 (row x ![18, 0, 0] inb_S21x8x8732_S1x8x8732_18_0_0)) (k0_pay51 (row x ![18, 0, 0] inb_S21x8x8732_S1x8x8732_18_0_0) (row y ![18, 0, 0] inb_S21x8x8732_S1x8x8732_18_0_0)) (row x ![19, 0, 0] inb_S21x8x8732_S1x8x8732_19_0_0) (row y ![19, 0, 0] inb_S21x8x8732_S1x8x8732_19_0_0) (row x ![20, 0, 0] inb_S21x8x8732_S1x8x8732_20_0_0) (row y ![20, 0, 0] inb_S21x8x8732_S1x8x8732_20_0_0)

/-- The divergence as the body stores it in the scratch. -/
def klStored (x y : Vec F S21x8x8732 .f32) : FVec F S8x8732 .f32 :=
  k0_pay56 (kl17 x y) (k0_pay50 (row x ![18, 0, 0] inb_S21x8x8732_S1x8x8732_18_0_0)) (k0_pay51 (row x ![18, 0, 0] inb_S21x8x8732_S1x8x8732_18_0_0) (row y ![18, 0, 0] inb_S21x8x8732_S1x8x8732_18_0_0)) (row x ![19, 0, 0] inb_S21x8x8732_S1x8x8732_19_0_0) (row y ![19, 0, 0] inb_S21x8x8732_S1x8x8732_19_0_0) (row x ![20, 0, 0] inb_S21x8x8732_S1x8x8732_20_0_0) (row y ![20, 0, 0] inb_S21x8x8732_S1x8x8732_20_0_0)

/-- The largest entry of classes 1 to 5. -/
def mx5 (x : Vec F S21x8x8732 .f32) : FVec F S8x8732 .f32 :=
  k0_pay21 (k0_pay14 (row x ![1, 0, 0] inb_S21x8x8732_S1x8x8732_1_0_0) (row x ![2, 0, 0] inb_S21x8x8732_S1x8x8732_2_0_0)) (row x ![3, 0, 0] inb_S21x8x8732_S1x8x8732_3_0_0) (row x ![4, 0, 0] inb_S21x8x8732_S1x8x8732_4_0_0) (row x ![5, 0, 0] inb_S21x8x8732_S1x8x8732_5_0_0)

/-- The largest entry of classes 1 to 7. -/
def mx7 (x : Vec F S21x8x8732 .f32) : FVec F S8x8732 .f32 :=
  k0_pay24 (mx5 x) (row x ![6, 0, 0] inb_S21x8x8732_S1x8x8732_6_0_0) (row x ![7, 0, 0] inb_S21x8x8732_S1x8x8732_7_0_0)

/-- The largest entry of classes 1 to 10. -/
def mx10 (x : Vec F S21x8x8732 .f32) : FVec F S8x8732 .f32 :=
  k0_pay30 (mx7 x) (row x ![8, 0, 0] inb_S21x8x8732_S1x8x8732_8_0_0) (row x ![9, 0, 0] inb_S21x8x8732_S1x8x8732_9_0_0) (row x ![10, 0, 0] inb_S21x8x8732_S1x8x8732_10_0_0)

/-- The largest entry of classes 1 to 13. -/
def mx13 (x : Vec F S21x8x8732 .f32) : FVec F S8x8732 .f32 :=
  k0_pay38 (mx10 x) (row x ![11, 0, 0] inb_S21x8x8732_S1x8x8732_11_0_0) (row x ![12, 0, 0] inb_S21x8x8732_S1x8x8732_12_0_0) (row x ![13, 0, 0] inb_S21x8x8732_S1x8x8732_13_0_0)

/-- The largest entry of classes 1 to 15. -/
def mx15 (x : Vec F S21x8x8732 .f32) : FVec F S8x8732 .f32 :=
  k0_pay43 (mx13 x) (row x ![14, 0, 0] inb_S21x8x8732_S1x8x8732_14_0_0) (row x ![15, 0, 0] inb_S21x8x8732_S1x8x8732_15_0_0)

/-- The largest entry of classes 1 to 18. -/
def mx18 (x : Vec F S21x8x8732 .f32) : FVec F S8x8732 .f32 :=
  k0_pay49 (mx15 x) (row x ![16, 0, 0] inb_S21x8x8732_S1x8x8732_16_0_0) (row x ![17, 0, 0] inb_S21x8x8732_S1x8x8732_17_0_0) (row x ![18, 0, 0] inb_S21x8x8732_S1x8x8732_18_0_0)

/-- Where the largest entry of classes 1 to 20 exceeds class 0's. -/
def mark (x : Vec F S21x8x8732 .f32) : IVec S8x8732 1 :=
  k0_pay55 (k0_pay10 (row x ![0, 0, 0] inb_S21x8x8732_S1x8x8732_0_0_0)) (mx18 x) (row x ![19, 0, 0] inb_S21x8x8732_S1x8x8732_19_0_0) (row x ![20, 0, 0] inb_S21x8x8732_S1x8x8732_20_0_0)

/-- The mark as the body stores it in the scratch: one where it holds, zero elsewhere. -/
def markStored (x : Vec F S21x8x8732 .f32) : FVec F S8x8732 .f32 :=
  k0_pay57 (k0_pay10 (row x ![0, 0, 0] inb_S21x8x8732_S1x8x8732_0_0_0)) (mx18 x) (row x ![19, 0, 0] inb_S21x8x8732_S1x8x8732_19_0_0) (row x ![20, 0, 0] inb_S21x8x8732_S1x8x8732_20_0_0)

/-- Eight rows of a scratch buffer: what a load of them reads. -/
def scrRows (d : Vec F S16x8732 .f32) (o : Fin 2 → ℕ) (h : ∀ a, o a + S8x8732.size a ≤ S16x8732.size a) :
    Vec F S8x8732 .f32 := View.ld d (Rect.unit (s := S16x8732) o S8x8732.size h)

/-- The numerator after a point that adds to it: over what it held, the stored divergences `k` and marks `l` and the
    point's own blocks. -/
def numNext (x y : Vec F S21x8x8732 .f32) (k l : Vec F S8x8732 .f32) (n : Vec F S1x1 .f32) : FVec F S1x1 .f32 :=
  k0_pay5 (kl20 x y) (mark x) k l n

/-- The count after a point that adds to it. -/
def cntNext (x : Vec F S21x8x8732 .f32) (l : Vec F S8x8732 .f32) (n : Vec F S1x1 .f32) : FVec F S1x1 .f32 :=
  k0_pay1 (k0_pay4 (mark x) l) (k0_pay6 n) (k0_pay7 (mark x) l)

end Cert.KernelIdeal.Loss

end
-- ==== Proof.Runs.lean ====
/- The kernel body run at the three kinds of grid point: at the first point it clears both sums and fills the first half
   of the scratch, at the second it fills the second half, at the last two it adds to the sums. -/
module

public import proofs.«01_k».proof.Proof.Chain
public import Idealize.ShloMosaic.Lib.VecWindow

@[expose] public section

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S21x8x8732 .f32) (harg1 : arg1.IsWhole)
  (arg2 : Memref sig .tc .vmem S21x8x8732 .f32) (harg2 : arg2.IsWhole)
  (arg3 : Memref sig .tc .vmem S1x1 .f32) (harg3 : arg3.IsWhole)
  (arg4 : Memref sig .tc .vmem S1x1 .f32) (harg4 : arg4.IsWhole)
  (arg5 : Memref sig .tc .vmem S16x8732 .f32) (harg5 : arg5.IsWhole)
  (arg6 : Memref sig .tc .vmem S16x8732 .f32) (harg6 : arg6.IsWhole)
  (x y : Vec F S21x8x8732 .f32) (n k : Vec F S1x1 .f32) (d e : Vec F S16x8732 .f32)

/-- The body's six buffers at the contents given. -/
def held (x y : Vec F S21x8x8732 .f32) (n k : Vec F S1x1 .f32) (d e : Vec F S16x8732 .f32) : sProp 𝕄 :=
  iprop(owns (c : Thread nD τ) arg1 fullShare x ∗ owns (c : Thread nD τ) arg2 fullShare y
    ∗ owns (c : Thread nD τ) arg3 fullShare n ∗ owns (c : Thread nD τ) arg4 fullShare k
    ∗ owns (c : Thread nD τ) arg5 fullShare d ∗ owns (c : Thread nD τ) arg6 fullShare e)

set_option maxHeartbeats 1000000 in
/-- The first point: both sums cleared, the point's divergences and marks written to the scratch. -/
theorem run_first (h1 : k0_cond1 i = 1#1) (h2 : k0_cond2 i = 1#1) (h3 : ¬ k0_cond3 i = 1#1)
    (E : Set ℕ) (K : PUnit → sProp 𝕄) :
    iprop(held c arg1 arg2 arg3 arg4 arg5 arg6 x y n k d e
        ∗ (held c arg1 arg2 arg3 arg4 arg5 arg6 x y (k0_pay8 (F := F)) (k0_pay9 (F := F))
            (VecWindow.put d (k0_off1 i) S8x8732.size (klStored x y))
            (VecWindow.put e (k0_off1 i) S8x8732.size (markStored x)) -∗ K ⟨⟩))
      ⊢ wp frame (wpE (defs₀ (F := F)) Variants.none c none) E
          (cc0__loss_body i arg1 harg1 arg2 harg2 arg3 harg3 arg4 harg4 arg5 harg5 arg6 harg6) K := by
  simp only [cc0__loss_body_eq_skeleton]; unfold cc0__loss_body_skel
  simp only [k0_part9_eq_skeleton, k0_part2_eq_skeleton, k0_part3_eq_skeleton, k0_part4_eq_skeleton,
    k0_part5_eq_skeleton, k0_part6_eq_skeleton, k0_part7_eq_skeleton, k0_part8_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩⟩, Hk⟩
  subst hf1 hf2 hf3 hf4 hf5 hf6
  sl_exec (disch := first | sl_exact h1 | sl_exact h2 | sl_exact h3)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; exact View.read_writes_full _ _ _ _ _
  isplitl [H4]
  · iexists _; isplitr; swap; · iexact H4
    ipureintro; exact View.read_writes_full _ _ _ _ _
  isplitl [H5]
  · iexists _; isplitr; swap; · iexact H5
    ipureintro; exact View.read_writes_cons_put _ _ _ _ [] rfl
  iexists _; isplitr; swap; · iexact H6
  ipureintro; exact View.read_writes_cons_put _ _ _ _ [] rfl

set_option maxHeartbeats 1000000 in
/-- The second point: the sums as they were, the point's divergences and marks written to the scratch. -/
theorem run_second (h1 : ¬ k0_cond1 i = 1#1) (h2 : k0_cond2 i = 1#1) (h3 : ¬ k0_cond3 i = 1#1)
    (E : Set ℕ) (K : PUnit → sProp 𝕄) :
    iprop(held c arg1 arg2 arg3 arg4 arg5 arg6 x y n k d e
        ∗ (held c arg1 arg2 arg3 arg4 arg5 arg6 x y n k
            (VecWindow.put d (k0_off1 i) S8x8732.size (klStored x y))
            (VecWindow.put e (k0_off1 i) S8x8732.size (markStored x)) -∗ K ⟨⟩))
      ⊢ wp frame (wpE (defs₀ (F := F)) Variants.none c none) E
          (cc0__loss_body i arg1 harg1 arg2 harg2 arg3 harg3 arg4 harg4 arg5 harg5 arg6 harg6) K := by
  simp only [cc0__loss_body_eq_skeleton]; unfold cc0__loss_body_skel
  simp only [k0_part9_eq_skeleton, k0_part2_eq_skeleton, k0_part3_eq_skeleton, k0_part4_eq_skeleton,
    k0_part5_eq_skeleton, k0_part6_eq_skeleton, k0_part7_eq_skeleton, k0_part8_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩⟩, Hk⟩
  subst hf1 hf2 hf3 hf4 hf5 hf6
  sl_exec (disch := first | sl_exact h1 | sl_exact h2 | sl_exact h3)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; exact View.read_writes_cons_put _ _ _ _ [] rfl
  iexists _; isplitr; swap; · iexact H6
  ipureintro; exact View.read_writes_cons_put _ _ _ _ [] rfl

set_option maxHeartbeats 1000000 in
/-- The last two points: the sums added to from the scratch and the point's own blocks, the scratch as it was. -/
theorem run_adds (h1 : ¬ k0_cond1 i = 1#1) (h2 : ¬ k0_cond2 i = 1#1) (h3 : k0_cond3 i = 1#1)
    (E : Set ℕ) (K : PUnit → sProp 𝕄) :
    iprop(held c arg1 arg2 arg3 arg4 arg5 arg6 x y n k d e
        ∗ (held c arg1 arg2 arg3 arg4 arg5 arg6 x y (numNext x y (scrRows d (k0_off2 i) (k0_off2_inb i h3)) (scrRows e (k0_off2 i) (k0_off2_inb i h3)) n) (cntNext x (scrRows e (k0_off2 i) (k0_off2_inb i h3)) k)
            d
            e -∗ K ⟨⟩))
      ⊢ wp frame (wpE (defs₀ (F := F)) Variants.none c none) E
          (cc0__loss_body i arg1 harg1 arg2 harg2 arg3 harg3 arg4 harg4 arg5 harg5 arg6 harg6) K := by
  simp only [cc0__loss_body_eq_skeleton]; unfold cc0__loss_body_skel
  simp only [k0_part9_eq_skeleton, k0_part2_eq_skeleton, k0_part3_eq_skeleton, k0_part4_eq_skeleton,
    k0_part5_eq_skeleton, k0_part6_eq_skeleton, k0_part7_eq_skeleton, k0_part8_eq_skeleton, k0_part1_eq_skeleton]
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩⟩, Hk⟩
  subst hf1 hf2 hf3 hf4 hf5 hf6
  sl_exec (disch := first | sl_exact h1 | sl_exact h2 | sl_exact h3)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; exact (View.read_writes_full _ _ _ _ _).trans (congrArg (numNext _ _ _ _) (View.readAt_full arg3.view f3 inb_S1x1_S1x1_0_0))
  isplitl [H4]
  · iexists _; isplitr; swap; · iexact H4
    ipureintro; exact (View.read_writes_full _ _ _ _ _).trans (congrArg (cntNext _ _) (View.readAt_full arg4.view f4 inb_S1x1_S1x1_0_0))
  isplitl [H5]
  · iexists _; isplitr; swap; · iexact H5
    ipureintro; rfl
  iexists _; isplitr; swap; · iexact H6
  ipureintro; rfl

end Cert.KernelIdeal.Loss

end
-- ==== Proof.State.lean ====
/- What the region's buffers hold point by point: the two sums after each grid point, and the rows of the scratch the
   points before have filled; from them the region's run. -/
module

public import proofs.«01_k».proof.Proof.Runs
public import Idealize.ShloMosaic.Lib.Pipeline.TableIdle
public import Idealize.ShloMosaic.Lib.Claim

@[expose] public section

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the first staged array at a point. -/
def blkX (c : Dev nD) (t : Fin cfg0.N) : Vec F S21x8x8732 .f32 := iblk m c 0 t
/-- The block of the second staged array at a point. -/
def blkY (c : Dev nD) (t : Fin cfg0.N) : Vec F S21x8x8732 .f32 := iblk m c 1 t

/-- The divergences a point stores. -/
def klAt (c : Dev nD) (t : Fin cfg0.N) : Vec F S8x8732 .f32 := klStored (blkX m c t) (blkY m c t)
/-- The marks a point stores. -/
def markAt (c : Dev nD) (t : Fin cfg0.N) : Vec F S8x8732 .f32 := markStored (blkX m c t)

/-- The numerator after each point. -/
def numAt (c : Dev nD) : (n : ℕ) → n < cfg0.N → FVec F S1x1 .f32
  | 0, _ => k0_pay8 (F := F)
  | 1, _ => k0_pay8 (F := F)
  | n + 2, h => numNext (blkX m c ⟨n + 2, h⟩) (blkY m c ⟨n + 2, h⟩) (klAt m c ⟨n, by omega⟩) (markAt m c ⟨n, by omega⟩)
      (numAt c (n + 1) (by omega))

/-- The count after each point. -/
def cntAt (c : Dev nD) : (n : ℕ) → n < cfg0.N → FVec F S1x1 .f32
  | 0, _ => k0_pay9 (F := F)
  | 1, _ => k0_pay9 (F := F)
  | n + 2, h => cntNext (blkX m c ⟨n + 2, h⟩) (markAt m c ⟨n, by omega⟩) (cntAt c (n + 1) (by omega))

/-- The scratch before point `n`: the rows of every writing point before it hold what that point stored. -/
def Filled (c : Dev nD) (n : ℕ) (d e : Vec F S16x8732 .f32) : Prop :=
  ∀ k : Fin cfg0.N, k.val < 2 → k.val < n → ∀ (o : Fin 2 → ℕ) (h : ∀ a, o a + S8x8732.size a ≤ S16x8732.size a),
    o 0 = 8 * k.val → o 1 = 0 → scrRows d o h = klAt m c k ∧ scrRows e o h = markAt m c k

/-- Before the first point nothing is asked of the scratch. -/
theorem filled_zero (c : Dev nD) (d e : Vec F S16x8732 .f32) : Filled m c 0 d e :=
  fun _ _ h => absurd h (Nat.not_lt_zero _)

/-- A point that does not write the scratch leaves it filled. -/
theorem filled_keep (c : Dev nD) (n : ℕ) (hn : 2 ≤ n) (d e : Vec F S16x8732 .f32) (h : Filled m c n d e) :
    Filled m c (n + 1) d e :=
  fun k hk _ => h k hk (by omega)

/-- Rows just written read back what was written. -/
theorem scrRows_put_same (d : Vec F S16x8732 .f32) (w : Vec F S8x8732 .f32) (o o' : Fin 2 → ℕ)
    (h : ∀ a, o' a + S8x8732.size a ≤ S16x8732.size a) (e : o = o') :
    scrRows (VecWindow.put (s := S16x8732) d o S8x8732.size w) o' h = w := by
  subst e; exact VecWindow.window_put_same (s := S16x8732) d o S8x8732.size h w

/-- Rows away from those written read as before. -/
theorem scrRows_put_away (d : Vec F S16x8732 .f32) (w : Vec F S8x8732 .f32) (o o' : Fin 2 → ℕ)
    (h : ∀ a, o' a + S8x8732.size a ≤ S16x8732.size a) (e : o' 0 + 8 ≤ o 0 ∨ o 0 + 8 ≤ o' 0) :
    scrRows (VecWindow.put (s := S16x8732) d o S8x8732.size w) o' h = scrRows d o' h :=
  VecWindow.window_put_of_disjoint (s := S16x8732) d o S8x8732.size o' S8x8732.size h w 0 e

/-- A point that writes the scratch adds its own rows to those filled. -/
theorem filled_put (c : Dev nD) (t : Fin cfg0.N) (ht : t.val < 2) (d e : Vec F S16x8732 .f32) (h : Filled m c t.val d e) :
    Filled m c (t.val + 1) (VecWindow.put d (k0_off1 (grid0.coords t)) S8x8732.size (klAt m c t))
      (VecWindow.put e (k0_off1 (grid0.coords t)) S8x8732.size (markAt m c t)) := by
  intro k hk hkt o ho o0 o1
  obtain ⟨q0, q1⟩ := off1_row t ht
  by_cases hkt' : k.val < t.val
  · have hd : o 0 + 8 ≤ k0_off1 (grid0.coords t) 0 ∨ k0_off1 (grid0.coords t) 0 + 8 ≤ o 0 := .inl (by rw [o0, q0]; omega)
    rw [scrRows_put_away _ _ _ _ _ hd, scrRows_put_away _ _ _ _ _ hd]
    exact h k hk hkt' o ho o0 o1
  · obtain rfl : k = t := Fin.ext (by omega)
    have ho' : k0_off1 (grid0.coords k) = o :=
      funext (Fin.forall_fin_two.mpr ⟨q0.trans o0.symm, q1.trans o1.symm⟩)
    exact ⟨scrRows_put_same _ _ _ _ _ ho', scrRows_put_same _ _ _ _ _ ho'⟩

/-- The region's proof data: every input's buffer at its block, the sums as they run, the scratch filled so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => numAt m c t.val t.isLt
    | ⟨3, _⟩ => cntAt m c t.val t.isLt
  Φ n := iprop((∃ d e, ⌜Filled m c n.val d e⌝ ∗ owns (c : Thread nD τ) klScr fullShare d
      ∗ owns (c : Thread nD τ) leftScr fullShare e) ∗ (∃ r, prngReg c r))
  q _ := fullShare
  owed _ := 0

/-- The arrays the region starts from. -/
theorem A_eq (c : Dev nD) (w : Fin cfg0.W) : (dats m 0 c).A w = V m c (Pipeline.arrRef spec0 w) := by
  dsimp only [dats]
/-- What each window holds after a point, one equation a window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = numAt m c t.val t.isLt := by dsimp only [dats]
theorem after_3 (c : Dev nD) (t : Fin cfg0.N) : (dats m 0 c).after 3 t = cntAt m c t.val t.isLt := by dsimp only [dats]
/-- What is carried between points. -/
theorem Phi_eq (c : Dev nD) (n : Fin (cfg0.N + 1)) : (dats m 0 c).Φ n
    = iprop((∃ d e, ⌜Filled m c n.val d e⌝ ∗ owns (c : Thread nD τ) klScr fullShare d
      ∗ owns (c : Thread nD τ) leftScr fullShare e) ∗ (∃ r, prngReg c r)) := by dsimp only [dats]

/-- The inputs' buffers hold their blocks before a point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- The sums' windows are untouched at the second point only. -/
theorem idle_2 : ∀ t : Fin cfg0.N, cfg0.idle 2 (grid0.coords t) = true ↔ t.val = 1 :=
  (by decide +kernel : ∀ t : Fin grid0.N, idle0 2 (grid0.coords t) = true ↔ t.val = 1)
theorem idle_3 : ∀ t : Fin cfg0.N, cfg0.idle 3 (grid0.coords t) = true ↔ t.val = 1 :=
  (by decide +kernel : ∀ t : Fin grid0.N, idle0 3 (grid0.coords t) = true ↔ t.val = 1)

/-- The sums' buffers hold what the body stored from the second point on. -/
theorem fresh_2 (t : Fin cfg0.N) (ht : t.val ≠ 0) : cfg0.fresh 2 t.val = false := by
  have hN : t.val < 4 := lt_of_lt_of_eq t.isLt (show cfg0.N = 4 from N_0)
  rw [Pipeline.Cfg.fresh_tab cfg0 2 (fun n => n == 0 || n == 4) rfl
    (by decide +kernel : ∀ t : Fin grid0.N, (t.val + 1 == 0 || t.val + 1 == 4)
      = (win0_2.flush t || (idle0 2 (grid0.coords t) && (t.val == 0 || t.val == 4)))) t.val t.isLt.le]
  simp; omega
theorem fresh_3 (t : Fin cfg0.N) (ht : t.val ≠ 0) : cfg0.fresh 3 t.val = false := by
  have hN : t.val < 4 := lt_of_lt_of_eq t.isLt (show cfg0.N = 4 from N_0)
  rw [Pipeline.Cfg.fresh_tab cfg0 3 (fun n => n == 0 || n == 4) rfl
    (by decide +kernel : ∀ t : Fin grid0.N, (t.val + 1 == 0 || t.val + 1 == 4)
      = (win0_3.flush t || (idle0 3 (grid0.coords t) && (t.val == 0 || t.val == 4)))) t.val t.isLt.le]
  simp; omega

/-- Past the first point the body finds each sum as the point before left it. -/
theorem before_2 (c : Dev nD) (n : ℕ) (h : n + 1 < cfg0.N) (d) :
    (dats m 0 c).before 2 ⟨n + 1, h⟩ d = numAt m c n (by omega) := by
  rw [(dats m 0 c).before_out_traj 2 rfl (fun _ _ => rfl) (fun t _ hi _ => by
      obtain ⟨tv, htv⟩ := t
      obtain rfl : tv = 1 := (idle_2 _).mp hi
      rw [after_2, after_2]; rfl) (n + 1) ⟨n + 1, h⟩ rfl d,
    fresh_2 ⟨n + 1, h⟩ (Nat.succ_ne_zero n), if_neg Bool.false_ne_true, after_2]
  rfl
theorem before_3 (c : Dev nD) (n : ℕ) (h : n + 1 < cfg0.N) (d) :
    (dats m 0 c).before 3 ⟨n + 1, h⟩ d = cntAt m c n (by omega) := by
  rw [(dats m 0 c).before_out_traj 3 rfl (fun _ _ => rfl) (fun t _ hi _ => by
      obtain ⟨tv, htv⟩ := t
      obtain rfl : tv = 1 := (idle_3 _).mp hi
      rw [after_3, after_3]; rfl) (n + 1) ⟨n + 1, h⟩ rfl d,
    fresh_3 ⟨n + 1, h⟩ (Nat.succ_ne_zero n), if_neg Bool.false_ne_true, after_3]
  rfl

end Cert.KernelIdeal.Loss

end
-- ==== Proof.Region.lean ====
/- The body's obligation at every grid point, and the run of the whole program: its argument arrays and counters, and
   the two sums it leaves. -/
module

public import proofs.«01_k».proof.Proof.State

@[expose] public section

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

/-- The body returns the inputs' buffers at their blocks. -/
theorem leaves_0 (c : Dev nD) (t : Fin cfg0.N) : (dats m 0 c).leavesExact 0 t
    = owns (c : Thread nD τ) (stg0 t) fullShare (blkX m c t) := by
  unfold Dat.leavesExact
  rw [show cfg0.idle 0 (cfg0.grid.coords t) = false from rfl, after_0]
  rfl
theorem leaves_1 (c : Dev nD) (t : Fin cfg0.N) : (dats m 0 c).leavesExact 1 t
    = owns (c : Thread nD τ) (stg1 t) fullShare (blkY m c t) := by
  unfold Dat.leavesExact
  rw [show cfg0.idle 1 (cfg0.grid.coords t) = false from rfl, after_1]
  rfl
/-- At a point that stores the sums the body returns them as `numAt`, `cntAt` say. -/
theorem leaves_2 (c : Dev nD) (t : Fin cfg0.N) (ht : t.val ≠ 1) : (dats m 0 c).leavesExact 2 t
    = owns (c : Thread nD τ) (stg2 t) fullShare (numAt m c t.val t.isLt) := by
  unfold Dat.leavesExact
  rw [show cfg0.idle 2 (cfg0.grid.coords t) = false from
    Bool.eq_false_iff.mpr fun h => ht ((idle_2 t).mp h), after_2]
theorem leaves_3 (c : Dev nD) (t : Fin cfg0.N) (ht : t.val ≠ 1) : (dats m 0 c).leavesExact 3 t
    = owns (c : Thread nD τ) (stg3 t) fullShare (cntAt m c t.val t.isLt) := by
  unfold Dat.leavesExact
  rw [show cfg0.idle 3 (cfg0.grid.coords t) = false from
    Bool.eq_false_iff.mpr fun h => ht ((idle_3 t).mp h), after_3]
/-- At the point that does not, as it found them. -/
theorem keeps_2 (c : Dev nD) (t : Fin cfg0.N) (ht : t.val = 1) : (dats m 0 c).leavesExact 2 t
    = iprop(∃ d, owns (c : Thread nD τ) (stg2 t) fullShare ((dats m 0 c).before 2 t d)) :=
  (dats m 0 c).leavesExact_idle 2 t ((idle_2 t).mpr ht)
    (Bool.eq_false_iff.mpr fun h => by have := (flush0_2 t).mp h; omega)
theorem keeps_3 (c : Dev nD) (t : Fin cfg0.N) (ht : t.val = 1) : (dats m 0 c).leavesExact 3 t
    = iprop(∃ d, owns (c : Thread nD τ) (stg3 t) fullShare ((dats m 0 c).before 3 t d)) :=
  (dats m 0 c).leavesExact_idle 3 t ((idle_3 t).mpr ht)
    (Bool.eq_false_iff.mpr fun h => by have := (flush0_3 t).mp h; omega)

set_option maxHeartbeats 1200000 in
/-- The first point. -/
theorem sound_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl, Phi_eq, Phi_eq,
    leaves_0, leaves_1, leaves_2 m c t (by omega), leaves_3 m c t (by omega)]
  iintro ⟨⟨⟨%d, %e, %hf, H5, H6⟩, Hg⟩, Ho, ⟨%d0, H1⟩, ⟨%d1, H2⟩, ⟨%d2, H3⟩, ⟨%d3, H4⟩⟩
  iapply (run_first c (grid0.coords t) _ _ _ _ _ _ _ _ _ _ _ _ (blkX m c t) (blkY m c t) _ _ d e
    ((first_iff t).mpr ht) ((writes_iff t).mpr (by omega)) (fun h => by have := (adds_iff t).mp h; omega) Set.univ _)
  unfold held
  isplitl [H1 H2 H3 H4 H5 H6]
  · isplitl [H1]; · iexact H1
    isplitl [H2]; · iexact H2
    isplitl [H3]; · iexact H3
    isplitl [H4]; · iexact H4
    isplitl [H5]; · iexact H5
    iexact H6
  iintro ⟨H1, H2, H3, H4, H5, H6⟩
  isplitl [H5 H6 Hg]
  · isplitl [H5 H6]
    · iexists _, _
      isplitr; swap
      · isplitl [H5]; · iexact H5
        iexact H6
      ipureintro; exact filled_put m c t (by omega) d e hf
    iexact Hg
  isplitl [Ho]; · iexact Ho
  isplitl [H1]; · iexact H1
  isplitl [H2]; · iexact H2
  obtain ⟨tv, htv⟩ := t
  obtain rfl : tv = 0 := ht
  isplitl [H3]; · iexact H3
  iexact H4

set_option maxHeartbeats 1200000 in
/-- The second point. -/
theorem sound_second (c : Dev nD) (t : Fin cfg0.N) (ht : t.val = 1) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl, Phi_eq, Phi_eq,
    leaves_0, leaves_1, keeps_2 m c t ht, keeps_3 m c t ht]
  iintro ⟨⟨⟨%d, %e, %hf, H5, H6⟩, Hg⟩, Ho, ⟨%d0, H1⟩, ⟨%d1, H2⟩, ⟨%d2, H3⟩, ⟨%d3, H4⟩⟩
  iapply (run_second c (grid0.coords t) _ _ _ _ _ _ _ _ _ _ _ _ (blkX m c t) (blkY m c t) _ _ d e
    (fun h => by have := (first_iff t).mp h; omega) ((writes_iff t).mpr (by omega))
    (fun h => by have := (adds_iff t).mp h; omega) Set.univ _)
  unfold held
  isplitl [H1 H2 H3 H4 H5 H6]
  · isplitl [H1]; · iexact H1
    isplitl [H2]; · iexact H2
    isplitl [H3]; · iexact H3
    isplitl [H4]; · iexact H4
    isplitl [H5]; · iexact H5
    iexact H6
  iintro ⟨H1, H2, H3, H4, H5, H6⟩
  isplitl [H5 H6 Hg]
  · isplitl [H5 H6]
    · iexists _, _
      isplitr; swap
      · isplitl [H5]; · iexact H5
        iexact H6
      ipureintro; exact filled_put m c t (by omega) d e hf
    iexact Hg
  isplitl [Ho]; · iexact Ho
  isplitl [H1]; · iexact H1
  isplitl [H2]; · iexact H2
  isplitl [H3]; · iexists d2; iexact H3
  iexists d3; iexact H4

set_option maxHeartbeats 1200000 in
/-- The last two points. -/
theorem sound_adds (c : Dev nD) (t : Fin cfg0.N) (ht : 2 ≤ t.val) :
    bodyPre m c t ⊢ wp frame (wpE (defs₀ (F := F)) Variants.none c none) Set.univ (bodyAt0 t) (fun _ => bodyPost m c t) := by
  obtain ⟨tv, htv⟩ := t
  obtain ⟨n, rfl⟩ : ∃ n, tv = n + 2 := ⟨tv - 2, by simp only at ht; omega⟩
  unfold bodyPre bodyPost bodyAt0
  simp only [before_0, before_1, before_2 m c (n + 1) htv, before_3 m c (n + 1) htv]
  rw [show (dats m 0 c).owesAt () (Fin.succ ⟨n + 2, htv⟩) = (dats m 0 c).owesAt () (Fin.castSucc ⟨n + 2, htv⟩) from rfl,
    Phi_eq, Phi_eq, leaves_0, leaves_1, leaves_2 m c _ (by simp), leaves_3 m c _ (by simp)]
  iintro ⟨⟨⟨%d, %e, %hf, H5, H6⟩, Hg⟩, Ho, ⟨%d0, H1⟩, ⟨%d1, H2⟩, ⟨%d2, H3⟩, ⟨%d3, H4⟩⟩
  have hN : n + 2 < 4 := lt_of_lt_of_eq htv (show cfg0.N = 4 from N_0)
  have h3 : k0_cond3 (grid0.coords ⟨n + 2, htv⟩) = 1#1 := (adds_iff ⟨n + 2, htv⟩).mpr ht
  obtain ⟨q0, q1⟩ := off2_row ⟨n + 2, htv⟩ ht
  obtain ⟨hk, hl⟩ := hf ⟨n, by omega⟩ (by simp only; omega) (by simp) (k0_off2 (grid0.coords ⟨n + 2, htv⟩))
    (k0_off2_inb (grid0.coords ⟨n + 2, htv⟩) h3) (by rw [q0]; rfl) q1
  iapply (run_adds c (grid0.coords ⟨n + 2, htv⟩) _ _ _ _ _ _ _ _ _ _ _ _ (blkX m c ⟨n + 2, htv⟩) (blkY m c ⟨n + 2, htv⟩)
    _ _ d e (fun h => by have := (first_iff ⟨n + 2, htv⟩).mp h; simp at this)
    (fun h => by have := (writes_iff ⟨n + 2, htv⟩).mp h; simp at this) h3 Set.univ _)
  rw [hk, hl]
  unfold held
  isplitl [H1 H2 H3 H4 H5 H6]
  · isplitl [H1]; · iexact H1
    isplitl [H2]; · iexact H2
    isplitl [H3]; · iexact H3
    isplitl [H4]; · iexact H4
    isplitl [H5]; · iexact H5
    iexact H6
  iintro ⟨H1, H2, H3, H4, H5, H6⟩
  isplitl [H5 H6 Hg]
  · isplitl [H5 H6]
    · iexists d, e
      isplitr; swap
      · isplitl [H5]; · iexact H5
        iexact H6
      ipureintro; exact filled_keep m c (n + 2) (by omega) d e hf
    iexact Hg
  isplitl [Ho]; · iexact Ho
  isplitl [H1]; · iexact H1
  isplitl [H2]; · iexact H2
  isplitl [H3]; · iexact H3
  iexact H4

/-- The body's obligation, at every point. -/
theorem body_obligation (c : Dev nD) :
    BodyObligation (dats (F := F) m 0 c) (defs₀ (F := F)) Variants.none () Set.univ := fun t => by
  rw [bigSep_W0, bigSep_W0, body_row]
  have h : bodyPre m c t ⊢ wp frame (wpE (defs₀ (F := F)) Variants.none c none) Set.univ (bodyAt0 t)
      (fun _ => bodyPost m c t) := by
    by_cases h0 : t.val = 0
    · exact sound_first m c t h0
    by_cases h1 : t.val = 1
    · exact sound_second m c t h1
    exact sound_adds m c t (by omega)
  exact triple_restated h rfl .rfl fun _ => .rfl

/-- The region is entered with its scratch at anything, nothing filled. -/
theorem enter (c : Dev nD) : (Pipeline.ΦA spec0 c : sProp 𝕄) ⊢ (dats m 0 c).Φ 0 := by
  rw [PhiA_scratch, Phi_eq]
  iintro ⟨⟨⟨%d, H5⟩, ⟨%e, H6⟩⟩, Hg⟩
  isplitl [H5 H6]
  · iexists d, e
    isplitr; swap
    · isplitl [H5]; · iexact H5
      iexact H6
    ipureintro; exact filled_zero m c d e
  iexact Hg

/-- It is left with the scratch at something. -/
theorem leave (c : Dev nD) : (dats m 0 c).Φ (Fin.last cfg0.N) ⊢ (Pipeline.ΦA spec0 c : sProp 𝕄) := by
  rw [PhiA_scratch, Phi_eq]
  iintro ⟨⟨%d, %e, %hf, H5, H6⟩, Hg⟩
  isplitl [H5 H6]
  · isplitl [H5]
    · iexists d; iexact H5
    iexists e; iexact H6
  iexact Hg

/-- The contents of the program's buffers after the region and the host lines that follow it. -/
abbrev atEnd := Pipeline.afterTail₀ cfgs (dats m) 0 (V0 m) [hostOps1, hostOps1_1, hostOps1_2]

set_option backward.isDefEq.respectTransparency.types false in
set_option maxHeartbeats 800000 in
/-- The run of the program: every execution ends with the staged arrays as the region leaves them, the other buffers
    as the host lines leave them, and every counter at zero. -/
theorem run : θ_run defs (onTc (τ := τ) (main (F := F))) (s₀ m ρ)
    (fun r => Pipeline.FramePost cfgs (dats m) 0 (atEnd m) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub)
    (hfresh := sfx_fresh) (hkeep := sfx_keeps) (hmain := hmain m Variants.none) (hA := A_eq m)
    (hin := enter m) (hout := leave m)

/-- The argument arrays end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Loss

end
-- ==== Proof.Same.lean ====
/- The printed kernel and its reading on extended reals are one program over whatever the floats are: no operation was
   replaced between them. What is proved of the second at every kind of float holds of the first. -/
module

public import proofs.«01_k».proof.Proof.Gen.Kernel
public import proofs.«01_k».proof.Proof.Region

@[expose] public section

set_option maxRecDepth 16384

noncomputable section

namespace Cert.Kernel.Loss

open Idealize.ShloMosaic Idealize.ShloMosaic.TcCoe Idealize.SL.Sem

variable {F : FTy → Type} [FloatOps F]

/-- The two kernel bodies are one. -/
theorem same_body : @Cert.Kernel.cc0__loss_body F _ Cert.Kernel.Gen.facts
    = @Cert.KernelIdeal.cc0__loss_body F _ Cert.KernelIdeal.Gen.facts := rfl

/-- So are the tables that call them at a grid point, -/
theorem same_table : Cert.Kernel.defs₀ (F := F) = Cert.KernelIdeal.defs₀ (F := F) := by
  unfold Cert.Kernel.defs₀ Cert.KernelIdeal.defs₀
  refine congrArg Defs.onTc (funext fun l => ?_)
  obtain rfl : l = 0 := Subsingleton.elim _ _
  refine funext fun (t, s) => ?_
  change Cert.Kernel.cc0__loss_body .. = _
  rw [same_body]
  rfl

/-- the tables with the regions and pipelines, -/
theorem same_defs : Cert.Kernel.defs (F := F) = Cert.KernelIdeal.defs (F := F) := by
  unfold Cert.Kernel.defs Cert.KernelIdeal.defs
  exact congrArg (Pipeline.defs (Cert.KernelIdeal.pcfgs (F := F))) same_table

/-- and the programs that start them. -/
theorem same_main : Cert.Kernel.main (F := F) = Cert.KernelIdeal.main (F := F) := rfl

open Cert.Kernel in
/-- The argument arrays of the printed kernel end as they were, and every counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [same_defs, same_main]
  exact Cert.KernelIdeal.Loss.frame m ρ

end Cert.Kernel.Loss

end
-- ==== Proof.Divergence.lean ====
/- The loss on extended reals, free of any program: the divergence of a pair of class vectors, the mark of a vector
   whose largest entry past the first exceeds the first, the positions marked in one half of the batch and not in the
   other, and the two sums over them. -/
module

public import Idealize.ShloMosaic.PureOps.Ideal.Laws
public import Idealize.ShloMosaic.Lib.IdealHost

@[expose] public section

noncomputable section

namespace Divergence

open Idealize.ShloMosaic
open scoped BigOperators

/-- The number added to every entry before its logarithm is taken. -/
def eps : EReal := Ideal.ofBits .f32 0x33D6BF95#32

/-- One class's part of the divergence. -/
def part (a b : EReal) : EReal := (a + eps) * (Ideal.log (a + eps) - Ideal.log (b + eps))

/-- The divergence of one vector of classes from another. -/
def kl (f g : Fin 21 → EReal) : EReal := ∑ k, part (f k) (g k)

/-- Some class past the first exceeds the first. -/
def Marked (f : Fin 21 → EReal) : Prop := ∃ k : Fin 20, f 0 < f k.succ

/-- One for a proposition that holds, zero for one that does not. -/
def ind (p : Prop) : EReal := open Classical in if p then 1 else 0

/-- A value where a proposition holds, zero where it does not. -/
def only (p : Prop) (a : EReal) : EReal := open Classical in if p then a else 0

/-- The indicator of what holds. -/
theorem ind_pos {p : Prop} (h : p) : ind p = 1 := if_pos h
/-- The indicator of what does not hold. -/
theorem ind_neg {p : Prop} (h : ¬ p) : ind p = 0 := if_neg h
/-- The value kept where the proposition holds. -/
theorem only_pos {p : Prop} (a : EReal) (h : p) : only p a = a := if_pos h
/-- The value dropped where it does not. -/
theorem only_neg {p : Prop} (a : EReal) (h : ¬ p) : only p a = 0 := if_neg h
/-- Equivalent propositions and equal values keep the same. -/
theorem only_congr {p q : Prop} {a b : EReal} (h : p ↔ q) (e : a = b) : only p a = only q b := by
  rw [propext h, e]
/-- Equivalent propositions have one indicator. -/
theorem ind_congr {p q : Prop} (h : p ↔ q) : ind p = ind q := by rw [propext h]

/-- A choice between a value and zero is the value where the proposition holds, however that is decided. -/
theorem ite_eq_only (p : Prop) [Decidable p] (a : EReal) : (if p then a else 0) = only p a := by
  by_cases h : p
  · rw [if_pos h, only_pos a h]
  · rw [if_neg h, only_neg a h]

/-- A product with an indicator is the value where it holds. -/
theorem mul_ind (p : Prop) (a : EReal) : a * ind p = only p a := by
  by_cases h : p
  · rw [ind_pos h, only_pos a h, mul_one]
  · rw [ind_neg h, only_neg a h, mul_zero]

/-- The place half a batch away. -/
def across (b : Fin 32) : Fin 32 := ⟨(b.val + 16) % 32, Nat.mod_lt _ (by norm_num)⟩

/-- A batch of class vectors: a place, a column, a class. -/
abbrev Batch := Fin 32 → Fin 8732 → Fin 21 → EReal

/-- A position marked at its own place and not half a batch away. -/
def Picked (X : Batch) (b : Fin 32) (p : Fin 8732) : Prop := Marked (X b p) ∧ ¬ Marked (X (across b) p)

/-- The divergences of the picked positions, summed. -/
def num (X Y : Batch) : EReal := ∑ b, ∑ p, only (Picked X b p) (kl (X b p) (Y b p))

/-- How many positions are picked. -/
def cnt (X : Batch) : EReal := ∑ b, ∑ p, ind (Picked X b p)

/-- The mean divergence of the picked positions, zero when there is none. -/
def loss (X Y : Batch) : EReal := only (0 < cnt X) (Ideal.div (num X Y) (max (cnt X) 1))

/-- The divergence, its classes added one after another. -/
theorem kl_eq (f g : Fin 21 → EReal) : kl f g =
    part (f 0) (g 0) + part (f 1) (g 1) + part (f 2) (g 2) + part (f 3) (g 3) + part (f 4) (g 4) + part (f 5) (g 5)
      + part (f 6) (g 6) + part (f 7) (g 7) + part (f 8) (g 8) + part (f 9) (g 9) + part (f 10) (g 10)
      + part (f 11) (g 11) + part (f 12) (g 12) + part (f 13) (g 13) + part (f 14) (g 14) + part (f 15) (g 15)
      + part (f 16) (g 16) + part (f 17) (g 17) + part (f 18) (g 18) + part (f 19) (g 19) + part (f 20) (g 20) := by
  unfold kl
  simp only [Fin.sum_univ_castSucc, Finset.univ_eq_empty, Finset.sum_empty, zero_add]
  rfl

/-- The mark, its classes compared by their largest. -/
theorem marked_iff (f : Fin 21 → EReal) : Marked f ↔ f 0 <
    max (max (max (max (max (max (max (max (max (max (max (max (max (max (max (max (max (max (max (f 1) (f 2)) (f 3))
      (f 4)) (f 5)) (f 6)) (f 7)) (f 8)) (f 9)) (f 10)) (f 11)) (f 12)) (f 13)) (f 14)) (f 15)) (f 16)) (f 17)) (f 18))
      (f 19)) (f 20) := by
  simp only [lt_max_iff, Marked, Fin.exists_fin_succ]
  simp [or_assoc]

/-- The threshold is one half. -/
theorem half_eq : Ideal.ofBits .f32 0x3F000000#32 = (((1 : ℝ) / 2 : ℝ) : EReal) := by
  simp [Ideal.ofBits, Ideal.ieee, -EReal.coe_mul]; norm_num

/-- An indicator exceeds one half exactly where its proposition holds. -/
theorem half_lt_ind (p : Prop) : Ideal.ofBits .f32 0x3F000000#32 < ind p ↔ p := by
  rw [half_eq]
  by_cases h : p
  · rw [ind_pos h]
    refine iff_of_true ?_ h
    exact_mod_cast (by norm_num : (1 : ℝ) / 2 < 1)
  · rw [ind_neg h]
    refine iff_of_false ?_ h
    rw [not_lt]
    exact_mod_cast (by norm_num : (0 : ℝ) ≤ 1 / 2)

/-- The places of the batch, a block of eight at a time. -/
theorem sum_blocks (f : Fin 32 → EReal) : ∑ b, f b =
    ∑ r : Fin 8, f ⟨r.val, by omega⟩ + ∑ r : Fin 8, f ⟨8 + r.val, by omega⟩
      + ∑ r : Fin 8, f ⟨16 + r.val, by omega⟩ + ∑ r : Fin 8, f ⟨24 + r.val, by omega⟩ := by
  simp only [Fin.sum_univ_castSucc, Finset.univ_eq_empty, Finset.sum_empty, zero_add]
  simp only [add_assoc]
  rfl

end Divergence

end
-- ==== Proof.Block.lean ====
/- What one grid point computes from its blocks, on extended reals: the divergence and the mark of every row and
   column, and what the point adds to the two sums. -/
module

public import proofs.«01_k».proof.Proof.Chain
public import proofs.«01_k».proof.Proof.Divergence
public import Idealize.ShloMosaic.Lib.Pointwise

@[expose] public section

set_option maxRecDepth 16384

noncomputable section

namespace Cert.KernelIdeal.Loss

open Idealize.ShloMosaic Idealize.ShloMosaic.TcCoe
open Idealize.SL.Sem
open Cert.KernelIdeal.Gen
open scoped BigOperators

/-- The classes of one row and column of a block. -/
def col (x : Vec Ideal S21x8x8732 .f32) (r : Fin 8) (p : Fin 8732) : Fin 21 → EReal := fun k => x (ix3 k r p)

/-- The divergence after the first two classes. -/
theorem kl1_at (x y : Vec Ideal S21x8x8732 .f32) (r : Fin 8) (p : Fin 8732) : kl1 x y (ix2 r p) =
    Divergence.part (col x r p 0) (col y r p 0) + Divergence.part (col x r p 1) (col y r p 1) := by
  pointwise [kl1, row, k0_pay10, k0_pay11, k0_pay12]
  rfl

/-- The divergence through class 4. -/
theorem kl4_at (x y : Vec Ideal S21x8x8732 .f32) (r : Fin 8) (p : Fin 8732) : kl4 x y (ix2 r p) =
    kl1 x y (ix2 r p) + Divergence.part (col x r p 2) (col y r p 2) + Divergence.part (col x r p 3) (col y r p 3)
      + Divergence.part (col x r p 4) (col y r p 4) := by
  pointwise [kl4, row, k0_pay13, k0_pay15, k0_pay16, k0_pay17, k0_pay18, k0_pay19]
  rfl

/-- The divergence through class 7. -/
theorem kl7_at (x y : Vec Ideal S21x8x8732 .f32) (r : Fin 8) (p : Fin 8732) : kl7 x y (ix2 r p) =
    kl4 x y (ix2 r p) + Divergence.part (col x r p 5) (col y r p 5) + Divergence.part (col x r p 6) (col y r p 6)
      + Divergence.part (col x r p 7) (col y r p 7) := by
  pointwise [kl7, row, k0_pay20, k0_pay22, k0_pay23, k0_pay25]
  rfl

/-- The divergence through class 9. -/
theorem kl9_at (x y : Vec Ideal S21x8x8732 .f32) (r : Fin 8) (p : Fin 8732) : kl9 x y (ix2 r p) =
    kl7 x y (ix2 r p) + Divergence.part (col x r p 8) (col y r p 8) + Divergence.part (col x r p 9) (col y r p 9) := by
  pointwise [kl9, row, k0_pay26, k0_pay27, k0_pay28]
  rfl

/-- The divergence through class 12. -/
theorem kl12_at (x y : Vec Ideal S21x8x8732 .f32) (r : Fin 8) (p : Fin 8732) : kl12 x y (ix2 r p) =
    kl9 x y (ix2 r p) + Divergence.part (col x r p 10) (col y r p 10) + Divergence.part (col x r p 11) (col y r p 11)
      + Divergence.part (col x r p 12) (col y r p 12) := by
  pointwise [kl12, row, k0_pay29, k0_pay31, k0_pay32, k0_pay33, k0_pay34, k0_pay35, k0_pay36]
  rfl

/-- The divergence through class 15. -/
theorem kl15_at (x y : Vec Ideal S21x8x8732 .f32) (r : Fin 8) (p : Fin 8732) : kl15 x y (ix2 r p) =
    kl12 x y (ix2 r p) + Divergence.part (col x r p 13) (col y r p 13) + Divergence.part (col x r p 14) (col y r p 14)
      + Divergence.part (col x r p 15) (col y r p 15) := by
  pointwise [kl15, row, k0_pay37, k0_pay39, k0_pay40, k0_pay41, k0_pay42, k0_pay44]
  rfl

/-- The divergence through class 17. -/
theorem kl17_at (x y : Vec Ideal S21x8x8732 .f32) (r : Fin 8) (p : Fin 8732) : kl17 x y (ix2 r p) =
    kl15 x y (ix2 r p) + Divergence.part (col x r p 16) (col y r p 16) + Divergence.part (col x r p 17) (col y r p 17) := by
  pointwise [kl17, row, k0_pay45, k0_pay46, k0_pay47]
  rfl

/-- The divergence through class 20, from the one through class 17. -/
theorem kl20_step (x y : Vec Ideal S21x8x8732 .f32) (r : Fin 8) (p : Fin 8732) : kl20 x y (ix2 r p) =
    kl17 x y (ix2 r p) + Divergence.part (col x r p 18) (col y r p 18) + Divergence.part (col x r p 19) (col y r p 19)
      + Divergence.part (col x r p 20) (col y r p 20) := by
  pointwise [kl20, row, k0_pay48, k0_pay50, k0_pay51, k0_pay52, k0_pay53, k0_pay54]
  rfl

/-- The divergence computed from two blocks, at a row and column. -/
theorem kl20_at (x y : Vec Ideal S21x8x8732 .f32) (r : Fin 8) (p : Fin 8732) :
    kl20 x y (ix2 r p) = Divergence.kl (col x r p) (col y r p) := by
  rw [kl20_step, kl17_at, kl15_at, kl12_at, kl9_at, kl7_at, kl4_at, kl1_at, Divergence.kl_eq]

/-- The divergence as stored, at a row and column. -/
theorem klStored_at (x y : Vec Ideal S21x8x8732 .f32) (r : Fin 8) (p : Fin 8732) :
    klStored x y (ix2 r p) = Divergence.kl (col x r p) (col y r p) := by
  rw [← kl20_at]
  pointwise [klStored, kl20, row, k0_pay48, k0_pay50, k0_pay51, k0_pay52, k0_pay53, k0_pay54, k0_pay56]

/-- The largest of classes 1 to 5. -/
theorem mx5_at (x : Vec Ideal S21x8x8732 .f32) (r : Fin 8) (p : Fin 8732) : mx5 x (ix2 r p) =
    max (max (max (max (col x r p 1) (col x r p 2)) (col x r p 3)) (col x r p 4)) (col x r p 5) := by
  pointwise [mx5, row, k0_pay11, k0_pay13, k0_pay14, k0_pay17, k0_pay18, k0_pay20, k0_pay21]
  rfl

/-- The largest of classes 1 to 7. -/
theorem mx7_at (x : Vec Ideal S21x8x8732 .f32) (r : Fin 8) (p : Fin 8732) : mx7 x (ix2 r p) =
    max (max (mx5 x (ix2 r p)) (col x r p 6)) (col x r p 7) := by
  pointwise [mx7, row, k0_pay22, k0_pay23, k0_pay24]
  rfl

/-- The largest of classes 1 to 10. -/
theorem mx10_at (x : Vec Ideal S21x8x8732 .f32) (r : Fin 8) (p : Fin 8732) : mx10 x (ix2 r p) =
    max (max (max (mx7 x (ix2 r p)) (col x r p 8)) (col x r p 9)) (col x r p 10) := by
  pointwise [mx10, row, k0_pay26, k0_pay27, k0_pay29, k0_pay30]
  rfl

/-- The largest of classes 1 to 13. -/
theorem mx13_at (x : Vec Ideal S21x8x8732 .f32) (r : Fin 8) (p : Fin 8732) : mx13 x (ix2 r p) =
    max (max (max (mx10 x (ix2 r p)) (col x r p 11)) (col x r p 12)) (col x r p 13) := by
  pointwise [mx13, row, k0_pay34, k0_pay35, k0_pay37, k0_pay38]
  rfl

/-- The largest of classes 1 to 15. -/
theorem mx15_at (x : Vec Ideal S21x8x8732 .f32) (r : Fin 8) (p : Fin 8732) : mx15 x (ix2 r p) =
    max (max (mx13 x (ix2 r p)) (col x r p 14)) (col x r p 15) := by
  pointwise [mx15, row, k0_pay41, k0_pay42, k0_pay43]
  rfl

/-- The largest of classes 1 to 18. -/
theorem mx18_at (x : Vec Ideal S21x8x8732 .f32) (r : Fin 8) (p : Fin 8732) : mx18 x (ix2 r p) =
    max (max (max (mx15 x (ix2 r p)) (col x r p 16)) (col x r p 17)) (col x r p 18) := by
  pointwise [mx18, row, k0_pay45, k0_pay46, k0_pay48, k0_pay49]
  rfl

/-- The comparison the body makes is the mark. -/
theorem marked_col (x : Vec Ideal S21x8x8732 .f32) (r : Fin 8) (p : Fin 8732) :
    Divergence.Marked (col x r p) ↔ x (ix3 0 r p) < max (max (mx18 x (ix2 r p)) (x (ix3 19 r p))) (x (ix3 20 r p)) := by
  rw [Divergence.marked_iff, mx18_at, mx15_at, mx13_at, mx10_at, mx7_at, mx5_at]
  rfl

/-- The mark computed from a block, at a row and column. -/
theorem mark_at (x : Vec Ideal S21x8x8732 .f32) (r : Fin 8) (p : Fin 8732) :
    mark x (ix2 r p) = BitVec.ofBool (open Classical in decide (Divergence.Marked (col x r p))) := by
  have h := marked_col x r p
  pointwise [mark, row, k0_pay10, k0_pay52, k0_pay53, k0_pay55]
  exact congrArg BitVec.ofBool (decide_eq_decide.mpr h.symm)

/-- The mark as stored, at a row and column. -/
theorem markStored_at (x : Vec Ideal S21x8x8732 .f32) (r : Fin 8) (p : Fin 8732) :
    markStored x (ix2 r p) = Divergence.ind (Divergence.Marked (col x r p)) := by
  have h := marked_col x r p
  pointwise [markStored, row, k0_pay10, k0_pay52, k0_pay53, k0_pay55, k0_pay57]
  by_cases hm : Divergence.Marked (col x r p)
  · rw [Divergence.ind_pos hm, if_pos (h.mp hm)]
  · rw [Divergence.ind_neg hm, if_neg (fun q => hm (h.mpr q))]

/-- A selection on one truth value and not another. -/
theorem select_both (p q : Prop) [Decidable p] [Decidable q] (a : EReal) :
    Scalar.select (IntOp.andi (BitVec.ofBool (decide p)) (IntOp.xori (BitVec.ofBool (decide q)) 1#1)) a 0
      = Divergence.only (p ∧ ¬ q) a := by
  by_cases hp : p <;> by_cases hq : q <;> simp [hp, hq, Divergence.only, Scalar.select, IntOp.andi, IntOp.xori]

/-- What a point adds to the numerator: over its own rows and those it is paired with, the divergences of the positions
    marked on one side alone. -/
theorem numNext_at (x y u v : Vec Ideal S21x8x8732 .f32) (n : Vec Ideal S1x1 .f32) (a b : Fin 1) :
    numNext x y (klStored u v) (markStored u) n (ix2 a b) = n (ix2 a b)
      + (∑ r : Fin 8, ∑ p : Fin 8732, Divergence.only (Divergence.Marked (col u r p) ∧ ¬ Divergence.Marked (col x r p))
            (Divergence.kl (col u r p) (col v r p))
        + ∑ r : Fin 8, ∑ p : Fin 8732, Divergence.only (Divergence.Marked (col x r p) ∧ ¬ Divergence.Marked (col u r p))
            (Divergence.kl (col x r p) (col y r p))) := by
  classical
  pointwise [numNext, k0_pay2, k0_pay3, k0_pay4, k0_pay5]
  simp only [kl20_at, klStored_at, mark_at, markStored_at]
  simp only [select_both, Divergence.half_lt_ind]

/-- What a point adds to the count. -/
theorem cntNext_at (x u : Vec Ideal S21x8x8732 .f32) (n : Vec Ideal S1x1 .f32) (a b : Fin 1) :
    cntNext x (markStored u) n (ix2 a b) = n (ix2 a b)
      + (∑ r : Fin 8, ∑ p : Fin 8732, Divergence.ind (Divergence.Marked (col u r p) ∧ ¬ Divergence.Marked (col x r p))
        + ∑ r : Fin 8, ∑ p : Fin 8732, Divergence.ind (Divergence.Marked (col x r p) ∧ ¬ Divergence.Marked (col u r p))) := by
  classical
  pointwise [cntNext, k0_pay1, k0_pay2, k0_pay3, k0_pay4, k0_pay6, k0_pay7]
  simp only [mark_at, markStored_at]
  simp only [select_both, Divergence.half_lt_ind]
  rfl

end Cert.KernelIdeal.Loss

end
-- ==== Proof.Entry.lean ====
/- The blocks the points read, on extended reals: a point's block of each staged array holds eight places of the batch,
   class by class. -/
module

public import proofs.«01_k».proof.Proof.State
public import proofs.«01_k».proof.Proof.Block
public import Idealize.ShloMosaic.Lib.Pipeline.ValueKit

@[expose] public section

set_option maxRecDepth 16384

noncomputable section

namespace Cert.KernelIdeal.Loss

open Idealize.ShloMosaic Idealize.ShloMosaic.TcCoe
open Idealize.SL.Sem
open Cert.KernelIdeal.Gen

variable (m : (ℓ : Loc nD τ sig) → Buf (Elt Ideal) ℓ)

/-- Where the input blocks of a point lie: the eight places from eight times the point's number. -/
theorem index_at : ∀ t : Fin cfg0.N, win0_0.index t 0 = 0 ∧ win0_0.index t 1 = t.val ∧ win0_0.index t 2 = 0
    ∧ win0_1.index t 0 = 0 ∧ win0_1.index t 1 = t.val ∧ win0_1.index t 2 = 0 :=
  (by decide +kernel : ∀ t : Fin grid0.N, win0_0.index t 0 = 0 ∧ win0_0.index t 1 = t.val ∧ win0_0.index t 2 = 0
    ∧ win0_1.index t 0 = 0 ∧ win0_1.index t 1 = t.val ∧ win0_1.index t 2 = 0)

/-- The first staged array is the first probabilities with their classes brought to the front. -/
theorem entry_X (c : Dev nD) : V m c main_v0 = transpose S21x32x8732 [2, 0, 1] (m ((c.tc : Thread nD τ).loc main_arg2))
    transposes_S32x8732x21_S21x32x8732_2_0_1 := by
  change StableHlo.after hostOps0 (fun b => m (c, b)) (Proc.devRef .tc main_v0) = _
  after_results_simp

/-- The second staged array is the second probabilities with their classes brought to the front. -/
theorem entry_Y (c : Dev nD) : V m c main_v1 = transpose S21x32x8732 [2, 0, 1] (m ((c.tc : Thread nD τ).loc main_arg4))
    transposes_S32x8732x21_S21x32x8732_2_0_1 := by
  change StableHlo.after hostOps0 (fun b => m (c, b)) (Proc.devRef .tc main_v1) = _
  after_results_simp

/-- An entry of the first block of a point is an entry of the first probabilities, eight places to a point. -/
theorem blkX_at (c : Dev nD) (t : Fin cfg0.N) (k : Fin 21) (r : Fin 8) (p : Fin 8732) (h : 8 * t.val + r.val < 32) :
    blkX m c t (ix3 k r p) = m ((c.tc : Thread nD τ).loc main_arg2) (ix3 ⟨8 * t.val + r.val, h⟩ p k) := by
  unfold blkX
  blk_simp [iblk]
  rw [entry_X]
  have e : (win0_0.blk t).view.emb (ix3 k r p) = ix3 k ⟨8 * t.val + r.val, h⟩ p := by
    blk_ext [index_at t]
  rw [e]
  pointwise []

/-- An entry of the second block of a point is an entry of the second probabilities, eight places to a point. -/
theorem blkY_at (c : Dev nD) (t : Fin cfg0.N) (k : Fin 21) (r : Fin 8) (p : Fin 8732) (h : 8 * t.val + r.val < 32) :
    blkY m c t (ix3 k r p) = m ((c.tc : Thread nD τ).loc main_arg4) (ix3 ⟨8 * t.val + r.val, h⟩ p k) := by
  unfold blkY
  blk_simp [iblk]
  rw [entry_Y]
  have e : (win0_1.blk t).view.emb (ix3 k r p) = ix3 k ⟨8 * t.val + r.val, h⟩ p := by
    blk_ext [index_at t]
  rw [e]
  pointwise []

/-- A batch of class vectors read off an array of places, columns and classes. -/
def batch (a : FVec Ideal S32x8732x21 .f32) : Divergence.Batch := fun b p k => a (ix3 b p k)

/-- The first batch: the probabilities the marks are taken of. -/
abbrev batchX (c : Dev nD) : Divergence.Batch := batch (m ((c.tc : Thread nD τ).loc main_arg2))
/-- The second batch: the mixed probabilities. -/
abbrev batchY (c : Dev nD) : Divergence.Batch := batch (m ((c.tc : Thread nD τ).loc main_arg4))

/-- A column of a point's first block is a class vector of the first batch. -/
theorem colX_at (c : Dev nD) (t : Fin cfg0.N) (r : Fin 8) (p : Fin 8732) (b : Fin 32) (h : b.val = 8 * t.val + r.val) :
    col (blkX m c t) r p = batchX m c b p := by
  obtain ⟨b, hb⟩ := b
  obtain rfl : b = 8 * t.val + r.val := h
  exact funext fun k => blkX_at m c t k r p hb

/-- A column of a point's second block is a class vector of the second batch. -/
theorem colY_at (c : Dev nD) (t : Fin cfg0.N) (r : Fin 8) (p : Fin 8732) (b : Fin 32) (h : b.val = 8 * t.val + r.val) :
    col (blkY m c t) r p = batchY m c b p := by
  obtain ⟨b, hb⟩ := b
  obtain rfl : b = 8 * t.val + r.val := h
  exact funext fun k => blkY_at m c t k r p hb

end Cert.KernelIdeal.Loss

end
-- ==== Proof.Sums.lean ====
/- What the two sums hold when the region ends, on extended reals: the divergences of the picked positions, and how many
   they are. -/
module

public import proofs.«01_k».proof.Proof.Entry

@[expose] public section

set_option maxRecDepth 16384

noncomputable section

namespace Cert.KernelIdeal.Loss

open Idealize.ShloMosaic Idealize.ShloMosaic.TcCoe
open Idealize.SL.Sem
open Cert.KernelIdeal.Gen
open scoped BigOperators

variable (m : (ℓ : Loc nD τ sig) → Buf (Elt Ideal) ℓ)

/-- A point of the region by its number. -/
abbrev pt (n : ℕ) (h : n < 4) : Fin cfg0.N := ⟨n, lt_of_lt_of_eq h N_0.symm⟩

/-- The picked divergences of one place of the batch. -/
def numRow (X Y : Divergence.Batch) (b : Fin 32) : EReal :=
  ∑ p, Divergence.only (Divergence.Picked X b p) (Divergence.kl (X b p) (Y b p))
/-- How many positions of one place are picked. -/
def cntRow (X : Divergence.Batch) (b : Fin 32) : EReal := ∑ p, Divergence.ind (Divergence.Picked X b p)

/-- The positions marked in one block and not in the one two points before or after it are the picked ones. -/
theorem picked_iff (c : Dev nD) (s t : Fin cfg0.N) (r : Fin 8) (p : Fin 8732) (b : Fin 32) (h : b.val = 8 * s.val + r.val)
    (e : t.val = s.val + 2 ∨ s.val = t.val + 2) :
    (Divergence.Marked (col (blkX m c s) r p) ∧ ¬ Divergence.Marked (col (blkX m c t) r p))
      ↔ Divergence.Picked (batchX m c) b p := by
  have hs : s.val < 4 := lt_of_lt_of_eq s.isLt N_0
  have ht : t.val < 4 := lt_of_lt_of_eq t.isLt N_0
  have ha : (Divergence.across b).val = 8 * t.val + r.val := by
    show (b.val + 16) % 32 = _
    omega
  rw [colX_at m c s r p b h, colX_at m c t r p _ ha]
  rfl

/-- One block's divergences picked against another block, as rows of the batch. -/
theorem num_rows (c : Dev nD) (s t : Fin cfg0.N) (e : t.val = s.val + 2 ∨ s.val = t.val + 2) (f : Fin 8 → Fin 32)
    (hf : ∀ r, (f r).val = 8 * s.val + r.val) :
    ∑ r : Fin 8, ∑ p : Fin 8732, Divergence.only (Divergence.Marked (col (blkX m c s) r p)
        ∧ ¬ Divergence.Marked (col (blkX m c t) r p)) (Divergence.kl (col (blkX m c s) r p) (col (blkY m c s) r p))
      = ∑ r : Fin 8, numRow (batchX m c) (batchY m c) (f r) :=
  Finset.sum_congr rfl fun r _ => Finset.sum_congr rfl fun p _ =>
    Divergence.only_congr (picked_iff m c s t r p (f r) (hf r) e)
      (by rw [colX_at m c s r p (f r) (hf r), colY_at m c s r p (f r) (hf r)])

/-- One block's picked positions counted, as rows of the batch. -/
theorem cnt_rows (c : Dev nD) (s t : Fin cfg0.N) (e : t.val = s.val + 2 ∨ s.val = t.val + 2) (f : Fin 8 → Fin 32)
    (hf : ∀ r, (f r).val = 8 * s.val + r.val) :
    ∑ r : Fin 8, ∑ p : Fin 8732, Divergence.ind (Divergence.Marked (col (blkX m c s) r p)
        ∧ ¬ Divergence.Marked (col (blkX m c t) r p)) = ∑ r : Fin 8, cntRow (batchX m c) (f r) :=
  Finset.sum_congr rfl fun r _ => Finset.sum_congr rfl fun p _ =>
    Divergence.ind_congr (picked_iff m c s t r p (f r) (hf r) e)

/-- The numerator after the last point. -/
theorem numAt_last (c : Dev nD) (a b : Fin 1) (h : 3 < cfg0.N) :
    numAt m c 3 h (ix2 a b) = Divergence.num (batchX m c) (batchY m c) := by
  have z : (k0_pay8 (F := Ideal)) (ix2 a b) = 0 := by pointwise [k0_pay8]
  have e2 := numNext_at (blkX m c (pt 2 (by decide))) (blkY m c (pt 2 (by decide))) (blkX m c (pt 0 (by decide)))
    (blkY m c (pt 0 (by decide))) (numAt m c 1 (by omega)) a b
  have e3 := numNext_at (blkX m c (pt 3 (by decide))) (blkY m c (pt 3 (by decide))) (blkX m c (pt 1 (by decide)))
    (blkY m c (pt 1 (by decide))) (numAt m c 2 (by omega)) a b
  have s3 : numAt m c 3 h (ix2 a b) = _ := e3
  have s2 : numAt m c 2 (by omega) (ix2 a b) = _ := e2
  have s1 : numAt m c 1 (by omega) (ix2 a b) = 0 := z
  rw [s3, s2, s1, zero_add,
    num_rows m c (pt 0 (by decide)) (pt 2 (by decide)) (.inl rfl) (fun r => ⟨r.val, by omega⟩) (fun r => by simp),
    num_rows m c (pt 2 (by decide)) (pt 0 (by decide)) (.inr rfl) (fun r => ⟨16 + r.val, by omega⟩) (fun r => rfl),
    num_rows m c (pt 1 (by decide)) (pt 3 (by decide)) (.inl rfl) (fun r => ⟨8 + r.val, by omega⟩) (fun r => rfl),
    num_rows m c (pt 3 (by decide)) (pt 1 (by decide)) (.inr rfl) (fun r => ⟨24 + r.val, by omega⟩) (fun r => rfl)]
  refine Eq.trans ?_ (Divergence.sum_blocks (numRow (batchX m c) (batchY m c))).symm
  rw [add_add_add_comm, ← add_assoc]

/-- The count after the last point. -/
theorem cntAt_last (c : Dev nD) (a b : Fin 1) (h : 3 < cfg0.N) :
    cntAt m c 3 h (ix2 a b) = Divergence.cnt (batchX m c) := by
  have z : (k0_pay9 (F := Ideal)) (ix2 a b) = 0 := by pointwise [k0_pay9]
  have e2 := cntNext_at (blkX m c (pt 2 (by decide))) (blkX m c (pt 0 (by decide))) (cntAt m c 1 (by omega)) a b
  have e3 := cntNext_at (blkX m c (pt 3 (by decide))) (blkX m c (pt 1 (by decide))) (cntAt m c 2 (by omega)) a b
  have s3 : cntAt m c 3 h (ix2 a b) = _ := e3
  have s2 : cntAt m c 2 (by omega) (ix2 a b) = _ := e2
  have s1 : cntAt m c 1 (by omega) (ix2 a b) = 0 := z
  rw [s3, s2, s1, zero_add,
    cnt_rows m c (pt 0 (by decide)) (pt 2 (by decide)) (.inl rfl) (fun r => ⟨r.val, by omega⟩) (fun r => by simp),
    cnt_rows m c (pt 2 (by decide)) (pt 0 (by decide)) (.inr rfl) (fun r => ⟨16 + r.val, by omega⟩) (fun r => rfl),
    cnt_rows m c (pt 1 (by decide)) (pt 3 (by decide)) (.inl rfl) (fun r => ⟨8 + r.val, by omega⟩) (fun r => rfl),
    cnt_rows m c (pt 3 (by decide)) (pt 1 (by decide)) (.inr rfl) (fun r => ⟨24 + r.val, by omega⟩) (fun r => rfl)]
  refine Eq.trans ?_ (Divergence.sum_blocks (cntRow (batchX m c))).symm
  rw [add_add_add_comm, ← add_assoc]

/-- The numerator's array when the region ends. -/
theorem arr_num (c : Dev nD) : (dats m 0 c).arrAt 2 cfg0.N = fun _ => Divergence.num (batchX m c) (batchY m c) := by
  refine (dats m 0 c).arrAt_eq_of_after_last 2 (pt 3 (by decide)) (by decide +kernel) _ fun j => ?_
  blk_simp
  rw [after_2]
  idx_vars j
  exact numAt_last m c _ _ _

/-- The count's array when the region ends. -/
theorem arr_cnt (c : Dev nD) : (dats m 0 c).arrAt 3 cfg0.N = fun _ => Divergence.cnt (batchX m c) := by
  refine (dats m 0 c).arrAt_eq_of_after_last 3 (pt 3 (by decide)) (by decide +kernel) _ fun j => ?_
  blk_simp
  rw [after_3]
  idx_vars j
  exact cntAt_last m c _ _ _

end Cert.KernelIdeal.Loss

end
-- ==== Proof.Ends.lean ====
/- What the kernel's results hold when it ends, on extended reals: zero, and the loss of the two batches. -/
module

public import proofs.«01_k».proof.Proof.Region
public import proofs.«01_k».proof.Proof.Sums

@[expose] public section

set_option maxRecDepth 16384

noncomputable section

namespace Cert.KernelIdeal.Loss

open Idealize.ShloMosaic Idealize.ShloMosaic.TcCoe
open Idealize.SL.Sem
open Cert.KernelIdeal.Gen

variable (m : (ℓ : Loc nD τ sig) → Buf (Elt Ideal) ℓ) (ρ : Dev nD → PrngReg)

/-- The first result as the host lines leave it. -/
theorem end_v9 (c : Dev nD) : atEnd m c main_v9
    = (broadcastInDim S1 ![] bcast_S_S1 (constant (F := Ideal) S_ .f32 0x00000000#32) : FVec Ideal S1 .f32) := by
  unfold atEnd Pipeline.afterTail₀
  generalize Pipeline.withArrays _ _ _ _ = W
  change StableHlo.after (hostOps1 ++ (hostOps1_1 ++ (hostOps1_2 ++ []))) W (Proc.devRef .tc main_v9) = _
  simp only [hostOps1, hostOps1_1, hostOps1_2, List.cons_append, List.nil_append]
  after_results_simp

/-- The quotient the host lines compute from the two sums' arrays. -/
def hostLoss (n k : FVec Ideal S1x1 .f32) : FVec Ideal S_ .f32 :=
  select (cmpf .ogt (shapeCast S_ k shapeCasts_S1x1_S_) (constant S_ .f32 0x00000000#32))
    (Host.divf (shapeCast S_ n shapeCasts_S1x1_S_)
      (maximumf (shapeCast S_ k shapeCasts_S1x1_S_) (constant S_ .f32 0x3F800000#32)))
    (constant S_ .f32 0x00000000#32)

/-- The second result as the host lines leave it, over the two sums' arrays. -/
theorem end_v8 (c : Dev nD) :
    atEnd m c main_v8 = hostLoss ((dats m 0 c).arrAt 2 cfg0.N) ((dats m 0 c).arrAt 3 cfg0.N) := by
  have e2 : Pipeline.withArrays cfg0.spec c (V0 m c) (fun w => (dats m 0 c).arrAt w cfg0.N) (Proc.devRef .tc main_v2_0)
      = (dats m 0 c).arrAt 2 cfg0.N := Pipeline.withArrays_arr spec0 (by decide) c _ _ 2
  have e3 : Pipeline.withArrays cfg0.spec c (V0 m c) (fun w => (dats m 0 c).arrAt w cfg0.N) (Proc.devRef .tc main_v2_1)
      = (dats m 0 c).arrAt 3 cfg0.N := Pipeline.withArrays_arr spec0 (by decide) c _ _ 3
  rw [← e2, ← e3]
  unfold atEnd Pipeline.afterTail₀
  change StableHlo.after _ (Pipeline.withArrays cfg0.spec c (V0 m c) (fun w => (dats m 0 c).arrAt w cfg0.N)) _ = _
  generalize Pipeline.withArrays _ _ _ _ = W
  change StableHlo.after (hostOps1 ++ (hostOps1_1 ++ (hostOps1_2 ++ []))) W (Proc.devRef .tc main_v8) = _
  simp only [hostOps1, hostOps1_1, hostOps1_2, List.cons_append, List.nil_append]
  after_results_simp
  rfl

/-- The host lines' quotient of the two sums is the loss. -/
theorem hostLoss_eq (n k : EReal) : hostLoss (fun _ => n) (fun _ => k)
    = fun _ => Divergence.only (0 < k) (Ideal.div n (max k 1)) := by
  funext j
  pointwise [hostLoss]
  exact Divergence.ite_eq_only _ _

/-- Every execution of the kernel ends with its results zero and the loss of the two batches, its arguments unchanged. -/
theorem results : θ_run defs (onTc (τ := τ) (main (F := Ideal))) ⟨m, fun _ => 0, ρ⟩ (fun r => ∀ c : Dev nD,
      r.2.mem ((c.tc : Thread nD τ).loc main_v9)
        = (broadcastInDim S1 ![] bcast_S_S1 (constant (F := Ideal) S_ .f32 0x00000000#32) : FVec Ideal S1 .f32)
      ∧ r.2.mem ((c.tc : Thread nD τ).loc main_v8)
        = ((fun _ => Divergence.loss (batchX m c) (batchY m c)) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run m ρ) (frame m ρ))
  obtain ⟨⟨hp, _⟩, hf, _⟩ := h
  refine ⟨?_, ?_, hf c⟩
  · refine Eq.trans ?_ (end_v9 m c)
    exact (hp c).2 main_v9 (Pipeline.mem_restRefs_of main_v9 (by decide) (by decide))
  · refine Eq.trans ?_ ((end_v8 m c).trans ?_)
    · exact (hp c).2 main_v8 (Pipeline.mem_restRefs_of main_v8 (by decide) (by decide))
    · rw [arr_num, arr_cnt]
      exact hostLoss_eq _ _

end Cert.KernelIdeal.Loss

end
-- ==== Proof.Reference.lean ====
/- What the reference computes, on extended reals: the loss of the two batches. -/
module

public import proofs.«01_k».proof.Proof.Gen.ReferenceIdeal.Run
public import proofs.«01_k».proof.Proof.Divergence
public import Idealize.ShloMosaic.Lib.Pointwise

@[expose] public section

set_option maxRecDepth 16384

noncomputable section

namespace Cert.ReferenceIdeal.Loss

open Idealize.ShloMosaic Idealize.ShloMosaic.TcCoe
open Idealize.SL.Sem
open Cert.ReferenceIdeal.Gen
open scoped BigOperators

/-- The largest of the classes past the first. -/
def largest (x : FVec Ideal S32x8732x21 .f32) : FVec Ideal S32x8732 .f32 :=
  Host.reduce FloatOps.maximumf (extractStridedSlice S32x8732x20 ![0, 0, 1] x slices_S32x8732x21_S32x8732x20_0_0_1)
    (constant S_ .f32 0xFF800000#32) reducesTo_S32x8732x20_S32x8732_d2 h_S_

/-- The first class. -/
def first (x : FVec Ideal S32x8732x21 .f32) : FVec Ideal S32x8732 .f32 :=
  shapeCast S32x8732 (extractStridedSlice S32x8732x1 ![0, 0, 0] x slices_S32x8732x21_S32x8732x1_0_0_0)
    shapeCasts_S32x8732x1_S32x8732

/-- The marks of a batch. -/
def marks (x : FVec Ideal S32x8732x21 .f32) : IVec S32x8732 1 := cmpf .ogt (largest x) (first x)

/-- The marks of the batch with its halves exchanged. -/
def swapped (v : IVec S32x8732 1) : IVec S32x8732 1 :=
  concatenate S32x8732 0 [⟨S16x8732, extractStridedSlice S16x8732 ![16, 0] v slices_S32x8732_S16x8732_16_0⟩,
    ⟨S16x8732, extractStridedSlice S16x8732 ![0, 0] v slices_S32x8732_S16x8732_0_0⟩]
    concatenates_S16x8732_S16x8732_S32x8732_d0

/-- One where a position is picked, zero elsewhere. -/
def weights (x : FVec Ideal S32x8732x21 .f32) : FVec Ideal S32x8732 .f32 :=
  uitofp .f32 (andi (marks x) (noti (swapped (marks x))))

/-- The divergence of every position. -/
def divergences (x y : FVec Ideal S32x8732x21 .f32) : FVec Ideal S32x8732 .f32 :=
  Host.reduceAdd (mulf (addf x (broadcastInDim S32x8732x21 ![] bcast_S_S32x8732x21 (constant S_ .f32 0x33D6BF95#32)))
    (subf (Host.log (addf x (broadcastInDim S32x8732x21 ![] bcast_S_S32x8732x21 (constant S_ .f32 0x33D6BF95#32))))
      (Host.log (addf y (broadcastInDim S32x8732x21 ![] bcast_S_S32x8732x21 (constant S_ .f32 0x33D6BF95#32))))))
    (constant S_ .f32 0x00000000#32) reducesTo_S32x8732x21_S32x8732_d2 h_S_

/-- The sum of an array over both its axes. -/
def total (v : FVec Ideal S32x8732 .f32) : FVec Ideal S_ .f32 :=
  Host.reduceAdd v (constant S_ .f32 0x00000000#32) reducesTo_S32x8732_S_d0_1 h_S_

variable (x y : FVec Ideal S32x8732x21 .f32) (b : Fin 32) (p : Fin 8732)

/-- A batch of class vectors read off an array of places, columns and classes. -/
def batch (a : FVec Ideal S32x8732x21 .f32) : Divergence.Batch := fun b p k => a (ix3 b p k)

/-- The smallest float value is below every extended real. -/
theorem lowest : Ideal.ofBits .f32 0xFF800000#32 = ⊥ := by
  simp [Ideal.ofBits, Ideal.ieee]

/-- The largest of the classes past the first, as a fold. -/
theorem largest_at : largest x (ix2 b p)
    = Finset.fold max (Ideal.ofBits .f32 0xFF800000#32) (fun k : Fin 20 => x (ix3 b p k.succ)) Finset.univ := by
  pointwise [largest]
  refine congrArg (fun f => Finset.fold max _ f Finset.univ) (funext fun k => congrArg x ?_)
  exact congrArg (ix3 b p) (Fin.ext (Nat.add_comm 1 _))

/-- The first class at a position. -/
theorem first_at : first x (ix2 b p) = x (ix3 b p 0) := by
  pointwise [first]

/-- The first class lies below the largest of the others exactly at a marked position. -/
theorem below_iff : first x (ix2 b p) < largest x (ix2 b p) ↔ Divergence.Marked (batch x b p) := by
  rw [largest_at, first_at, lowest, Finset.lt_fold_max]
  simp [Divergence.Marked, batch]

/-- A comparison of two arrays at a position. -/
theorem compare_at (u v : FVec Ideal S32x8732 .f32) :
    cmpf .ogt u v (ix2 b p) = BitVec.ofBool (open Classical in decide (v (ix2 b p) < u (ix2 b p))) := by
  pointwise []

/-- The marks at a position. -/
theorem marks_at : marks x (ix2 b p) = BitVec.ofBool (open Classical in decide (Divergence.Marked (batch x b p))) := by
  unfold marks
  rw [compare_at]
  exact congrArg BitVec.ofBool (decide_eq_decide.mpr (below_iff x b p))

/-- The halves exchanged: a position reads half a batch away. -/
theorem swapped_at (v : IVec S32x8732 1) : swapped v (ix2 b p) = v (ix2 (Divergence.across b) p) := by
  pointwise [swapped]
  split
  · exact congrArg v (congrArg (fun i => ix2 i p) (Fin.ext (by simp only [Divergence.across]; omega)))
  · exact congrArg v (congrArg (fun i => ix2 i p) (Fin.ext (by simp only [Divergence.across]; omega)))

/-- The number of a bit that is not set. -/
theorem number_zero : FloatOps.uitofp (F := Ideal) .f32 (0#1) = (0 : EReal) := by
  change (((0#1).toNat : ℝ) : EReal) = 0
  simp

/-- The number of a bit that is set. -/
theorem number_one : FloatOps.uitofp (F := Ideal) .f32 (1#1) = (1 : EReal) := by
  change (((1#1).toNat : ℝ) : EReal) = 1
  simp

/-- The number made of one truth value and the denial of another. -/
theorem number_both (s t : Prop) [Decidable s] [Decidable t] :
    FloatOps.uitofp (F := Ideal) .f32 (IntOp.andi (BitVec.ofBool (decide s)) (~~~BitVec.ofBool (decide t)))
      = Divergence.ind (s ∧ ¬ t) := by
  by_cases hs : s <;> by_cases ht : t <;> simp [hs, ht, Divergence.ind, IntOp.andi, number_zero, number_one]

/-- The weight of a position is one where it is picked, zero elsewhere. -/
theorem weights_at : weights x (ix2 b p) = Divergence.ind (Divergence.Picked (batch x) b p) := by
  pointwise [weights]
  classical
  rw [swapped_at, marks_at, marks_at]
  exact number_both _ _

/-- The divergence at a position. -/
theorem divergences_at : divergences x y (ix2 b p) = Divergence.kl (batch x b p) (batch y b p) := by
  pointwise [divergences]
  rfl

/-- The sum over all positions. -/
theorem total_at (v : FVec Ideal S32x8732 .f32) (j : S_.Idx) : total v j = ∑ b : Fin 32, ∑ p : Fin 8732, v (ix2 b p) := by
  pointwise [total]

/-- The count is the sum of the weights. -/
theorem count_at (j : S_.Idx) : total (weights x) j = Divergence.cnt (batch x) := by
  rw [total_at]
  exact Finset.sum_congr rfl fun b _ => Finset.sum_congr rfl fun p _ => weights_at x b p

/-- The numerator is the sum of the weighted divergences. -/
theorem numer_at (j : S_.Idx) : total (mulf (divergences x y) (weights x)) j = Divergence.num (batch x) (batch y) := by
  rw [total_at]
  refine Finset.sum_congr rfl fun b _ => Finset.sum_congr rfl fun p _ => ?_
  rw [← Divergence.mul_ind, ← weights_at, ← divergences_at]
  pointwise []

/-- The loss as the reference composes it. -/
def composed (n k : FVec Ideal S_ .f32) : FVec Ideal S_ .f32 :=
  select (cmpf .ogt k (constant S_ .f32 0x00000000#32)) (Host.divf n (maximumf k (constant S_ .f32 0x3F800000#32)))
    (constant S_ .f32 0x00000000#32)

/-- The composed loss as a quotient kept where the count is positive. -/
theorem composed_at (n k : FVec Ideal S_ .f32) (j : S_.Idx) :
    composed n k j = Divergence.only (0 < k j) (Ideal.div (n j) (max (k j) 1)) := by
  pointwise [composed]
  exact Divergence.ite_eq_only _ _

open Cert.ReferenceIdeal.Value in
/-- The reference's second result is the loss of the two batches. -/
theorem out1 (m : (ℓ : Loc nD τ sig) → Buf (Elt Ideal) ℓ) (c : Dev nD) : res_out1 m c
    = ((fun _ => Divergence.loss (batch (m ((c.tc : Thread nD τ).loc main_arg2)))
        (batch (m ((c.tc : Thread nD τ).loc main_arg4)))) : FVec Ideal S_ .f32) := by
  have e : res_out1 m c = composed
      (total (mulf (divergences (m ((c.tc : Thread nD τ).loc main_arg2)) (m ((c.tc : Thread nD τ).loc main_arg4)))
        (weights (m ((c.tc : Thread nD τ).loc main_arg2)))))
      (total (weights (m ((c.tc : Thread nD τ).loc main_arg2)))) := rfl
  rw [e]
  funext j
  rw [composed_at, count_at, numer_at]
  rfl

end Cert.ReferenceIdeal.Loss

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Ends
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The printed kernel ends with its arguments unchanged and its counters at zero. -/
theorem kernel_ends : Cert.quiescent_Kernel := fun m g _ => Cert.Kernel.Loss.frame m g

/-- So does the kernel on extended reals. -/
theorem ideal_ends : Cert.quiescent_KernelIdeal := fun m g _ => Cert.KernelIdeal.Loss.frame m g

/-- So does the reference, which has no counter. -/
theorem reference_ends : Cert.quiescent_ReferenceIdeal := fun m g _ =>
  (θ_run Cert.ReferenceIdeal.defs _ _).mono
    (fun r h => ⟨fun c => (h c).2.2, sem_eq_zero_of_no_sems (by decide) r.2⟩) (Cert.ReferenceIdeal.Value.run m g)

/-- The kernel and the reference end with equal results. -/
theorem equal_results : Cert.algebraic_KernelIdeal_ReferenceIdeal := by
  intro m g m' g' _ hagree
  refine ⟨_, _, Cert.KernelIdeal.Loss.results m g,
    (θ_run Cert.ReferenceIdeal.defs _ _).mono (fun r h c => ⟨(h c).1, ?_, (h c).2.2⟩)
      (Cert.ReferenceIdeal.Value.run m' g')⟩
  refine ((h c).2.1.trans (Cert.ReferenceIdeal.Loss.out1 m' c)).trans ?_
  obtain ⟨_, _, h2, _, h4, _⟩ := hagree c
  rw [h2, h4]
  rfl

/-- The certificate's claim. -/
theorem claim : Cert.Claim :=
  ⟨Cert.Kernel.Gen.facts, Cert.KernelIdeal.Gen.facts, Cert.ReferenceIdeal.Gen.facts,
    kernel_ends, ideal_ends, reference_ends, trivial, equal_results⟩

end Cert.Proof

end
